-- ==== Defs.lean ====
def Pre_Sconv (m : (ℓ : Loc Cert.Sconv.nD Cert.Sconv.τ Cert.Sconv.sig) → Buf (Elt Bits) ℓ) : Prop :=
  True

def Pre_SconvIdeal (m : (ℓ : Loc Cert.SconvIdeal.nD Cert.SconvIdeal.τ Cert.SconvIdeal.sig) → Buf (Elt Ideal) ℓ) : Prop :=
  True

def Pre_SconvRefIdeal (m : (ℓ : Loc Cert.SconvRefIdeal.nD Cert.SconvRefIdeal.τ Cert.SconvRefIdeal.sig) → Buf (Elt Ideal) ℓ) : Prop :=
  True

def Pre_Hyena (m : (ℓ : Loc Cert.Hyena.nD Cert.Hyena.τ Cert.Hyena.sig) → Buf (Elt Bits) ℓ) : Prop :=
  True

def Pre_HyenaIdeal (m : (ℓ : Loc Cert.HyenaIdeal.nD Cert.HyenaIdeal.τ Cert.HyenaIdeal.sig) → Buf (Elt Ideal) ℓ) : Prop :=
  True

def Pre_HyenaRefIdeal (m : (ℓ : Loc Cert.HyenaRefIdeal.nD Cert.HyenaRefIdeal.τ Cert.HyenaRefIdeal.sig) → Buf (Elt Ideal) ℓ) : Prop :=
  True

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_GlaInRefIdeal (m : (ℓ : Loc Cert.GlaInRefIdeal.nD Cert.GlaInRefIdeal.τ Cert.GlaInRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_LnSample (m : (ℓ : Loc Cert.LnSample.nD Cert.LnSample.τ Cert.LnSample.sig) → Buf (Elt Bits) ℓ) : Prop :=
  True

def Pre_LnSampleIdeal (m : (ℓ : Loc Cert.LnSampleIdeal.nD Cert.LnSampleIdeal.τ Cert.LnSampleIdeal.sig) → Buf (Elt Ideal) ℓ) : Prop :=
  True

def Pre_LnSampleRefIdeal (m : (ℓ : Loc Cert.LnSampleRefIdeal.nD Cert.LnSampleRefIdeal.τ Cert.LnSampleRefIdeal.sig) → Buf (Elt Ideal) ℓ) : Prop :=
  True

def Pre_LnPrompt (m : (ℓ : Loc Cert.LnPrompt.nD Cert.LnPrompt.τ Cert.LnPrompt.sig) → Buf (Elt Bits) ℓ) : Prop :=
  True

def Pre_LnPromptIdeal (m : (ℓ : Loc Cert.LnPromptIdeal.nD Cert.LnPromptIdeal.τ Cert.LnPromptIdeal.sig) → Buf (Elt Ideal) ℓ) : Prop :=
  True

def Pre_LnPromptRefIdeal (m : (ℓ : Loc Cert.LnPromptRefIdeal.nD Cert.LnPromptRefIdeal.τ Cert.LnPromptRefIdeal.sig) → Buf (Elt Ideal) ℓ) : Prop :=
  True

def Pre_GlaState (m : (ℓ : Loc Cert.GlaState.nD Cert.GlaState.τ Cert.GlaState.sig) → Buf (Elt Bits) ℓ) : Prop :=
  True

def Pre_GlaStateIdeal (m : (ℓ : Loc Cert.GlaStateIdeal.nD Cert.GlaStateIdeal.τ Cert.GlaStateIdeal.sig) → Buf (Elt Ideal) ℓ) : Prop :=
  True

def Pre_GlaStateIdeal_gates_finite [hPre_gates_finite : Cert.Pre_gates_finite.Facts] (m : (ℓ : Loc Cert.GlaStateIdeal.nD Cert.GlaStateIdeal.τ Cert.GlaStateIdeal.sig) → Buf (Elt Ideal) ℓ) : Prop :=
  ∀ c : Dev Cert.GlaStateIdeal.nD,
    (Cert.Pre_gates_finite.fn (F := Ideal) (m ((c.tc : Thread Cert.GlaStateIdeal.nD Cert.GlaStateIdeal.τ).loc Cert.GlaStateIdeal.main_arg0)) (m ((c.tc : Thread Cert.GlaStateIdeal.nD Cert.GlaStateIdeal.τ).loc Cert.GlaStateIdeal.main_arg1)) (m ((c.tc : Thread Cert.GlaStateIdeal.nD Cert.GlaStateIdeal.τ).loc Cert.GlaStateIdeal.main_arg2)) (m ((c.tc : Thread Cert.GlaStateIdeal.nD Cert.GlaStateIdeal.τ).loc Cert.GlaStateIdeal.main_arg3))) = (fun _ => 1#1)

def Pre_GlaStateRefIdeal (m : (ℓ : Loc Cert.GlaStateRefIdeal.nD Cert.GlaStateRefIdeal.τ Cert.GlaStateRefIdeal.sig) → Buf (Elt Ideal) ℓ) : Prop :=
  True

def Pre_GlaStateRefIdeal_gates_finite [hPre_gates_finite : Cert.Pre_gates_finite.Facts] (m : (ℓ : Loc Cert.GlaStateRefIdeal.nD Cert.GlaStateRefIdeal.τ Cert.GlaStateRefIdeal.sig) → Buf (Elt Ideal) ℓ) : Prop :=
  ∀ c : Dev Cert.GlaStateRefIdeal.nD,
    (Cert.Pre_gates_finite.fn (F := Ideal) (m ((c.tc : Thread Cert.GlaStateRefIdeal.nD Cert.GlaStateRefIdeal.τ).loc Cert.GlaStateRefIdeal.main_arg0)) (m ((c.tc : Thread Cert.GlaStateRefIdeal.nD Cert.GlaStateRefIdeal.τ).loc Cert.GlaStateRefIdeal.main_arg1)) (m ((c.tc : Thread Cert.GlaStateRefIdeal.nD Cert.GlaStateRefIdeal.τ).loc Cert.GlaStateRefIdeal.main_arg2)) (m ((c.tc : Thread Cert.GlaStateRefIdeal.nD Cert.GlaStateRefIdeal.τ).loc Cert.GlaStateRefIdeal.main_arg3))) = (fun _ => 1#1)

def quiescent_Sconv [hSconv : Cert.Sconv.Facts] : Prop :=
  ∀ (m : (ℓ : Loc Cert.Sconv.nD Cert.Sconv.τ Cert.Sconv.sig) → Buf (Elt Bits) ℓ) (g : Dev Cert.Sconv.nD → PrngReg), Pre_Sconv m →
    θ_run (Cert.Sconv.defs (F := Bits)) (onTc (τ := Cert.Sconv.τ) (Cert.Sconv.main (F := Bits))) ⟨m, fun _ => 0, g⟩ (fun r => (∀ c : Dev Cert.Sconv.nD,
      r.2.mem ((c.tc : Thread Cert.Sconv.nD Cert.Sconv.τ).loc Cert.Sconv.main_arg0) = m ((c.tc : Thread Cert.Sconv.nD Cert.Sconv.τ).loc Cert.Sconv.main_arg0)
      ∧ r.2.mem ((c.tc : Thread Cert.Sconv.nD Cert.Sconv.τ).loc Cert.Sconv.main_arg1) = m ((c.tc : Thread Cert.Sconv.nD Cert.Sconv.τ).loc Cert.Sconv.main_arg1)
      ∧ r.2.mem ((c.tc : Thread Cert.Sconv.nD Cert.Sconv.τ).loc Cert.Sconv.main_arg2) = m ((c.tc : Thread Cert.Sconv.nD Cert.Sconv.τ).loc Cert.Sconv.main_arg2))
      ∧ r.2.sem = fun _ => 0)

def quiescent_SconvIdeal [hSconvIdeal : Cert.SconvIdeal.Facts] : Prop :=
  ∀ (m : (ℓ : Loc Cert.SconvIdeal.nD Cert.SconvIdeal.τ Cert.SconvIdeal.sig) → Buf (Elt Ideal) ℓ) (g : Dev Cert.SconvIdeal.nD → PrngReg), Pre_SconvIdeal m →
    θ_run (Cert.SconvIdeal.defs (F := Ideal)) (onTc (τ := Cert.SconvIdeal.τ) (Cert.SconvIdeal.main (F := Ideal))) ⟨m, fun _ => 0, g⟩ (fun r => (∀ c : Dev Cert.SconvIdeal.nD,
      r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
      ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
      ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2))
      ∧ r.2.sem = fun _ => 0)

def quiescent_SconvRefIdeal [hSconvRefIdeal : Cert.SconvRefIdeal.Facts] : Prop :=
  ∀ (m : (ℓ : Loc Cert.SconvRefIdeal.nD Cert.SconvRefIdeal.τ Cert.SconvRefIdeal.sig) → Buf (Elt Ideal) ℓ) (g : Dev Cert.SconvRefIdeal.nD → PrngReg), Pre_SconvRefIdeal m →
    θ_run (Cert.SconvRefIdeal.defs (F := Ideal)) (onTc (τ := Cert.SconvRefIdeal.τ) (Cert.SconvRefIdeal.main (F := Ideal))) ⟨m, fun _ => 0, g⟩ (fun r => (∀ c : Dev Cert.SconvRefIdeal.nD,
      r.2.mem ((c.tc : Thread Cert.SconvRefIdeal.nD Cert.SconvRefIdeal.τ).loc Cert.SconvRefIdeal.main_arg0) = m ((c.tc : Thread Cert.SconvRefIdeal.nD Cert.SconvRefIdeal.τ).loc Cert.SconvRefIdeal.main_arg0)
      ∧ r.2.mem ((c.tc : Thread Cert.SconvRefIdeal.nD Cert.SconvRefIdeal.τ).loc Cert.SconvRefIdeal.main_arg1) = m ((c.tc : Thread Cert.SconvRefIdeal.nD Cert.SconvRefIdeal.τ).loc Cert.SconvRefIdeal.main_arg1)
      ∧ r.2.mem ((c.tc : Thread Cert.SconvRefIdeal.nD Cert.SconvRefIdeal.τ).loc Cert.SconvRefIdeal.main_arg2) = m ((c.tc : Thread Cert.SconvRefIdeal.nD Cert.SconvRefIdeal.τ).loc Cert.SconvRefIdeal.main_arg2))
      ∧ r.2.sem = fun _ => 0)

def quiescent_Hyena [hHyena : Cert.Hyena.Facts] : Prop :=
  ∀ (m : (ℓ : Loc Cert.Hyena.nD Cert.Hyena.τ Cert.Hyena.sig) → Buf (Elt Bits) ℓ) (g : Dev Cert.Hyena.nD → PrngReg), Pre_Hyena m →
    θ_run (Cert.Hyena.defs (F := Bits)) (onTc (τ := Cert.Hyena.τ) (Cert.Hyena.main (F := Bits))) ⟨m, fun _ => 0, g⟩ (fun r => (∀ c : Dev Cert.Hyena.nD,
      r.2.mem ((c.tc : Thread Cert.Hyena.nD Cert.Hyena.τ).loc Cert.Hyena.main_arg0) = m ((c.tc : Thread Cert.Hyena.nD Cert.Hyena.τ).loc Cert.Hyena.main_arg0)
      ∧ r.2.mem ((c.tc : Thread Cert.Hyena.nD Cert.Hyena.τ).loc Cert.Hyena.main_arg1) = m ((c.tc : Thread Cert.Hyena.nD Cert.Hyena.τ).loc Cert.Hyena.main_arg1)
      ∧ r.2.mem ((c.tc : Thread Cert.Hyena.nD Cert.Hyena.τ).loc Cert.Hyena.main_arg2) = m ((c.tc : Thread Cert.Hyena.nD Cert.Hyena.τ).loc Cert.Hyena.main_arg2)
      ∧ r.2.mem ((c.tc : Thread Cert.Hyena.nD Cert.Hyena.τ).loc Cert.Hyena.main_arg3) = m ((c.tc : Thread Cert.Hyena.nD Cert.Hyena.τ).loc Cert.Hyena.main_arg3))
      ∧ r.2.sem = fun _ => 0)

def quiescent_HyenaIdeal [hHyenaIdeal : Cert.HyenaIdeal.Facts] : Prop :=
  ∀ (m : (ℓ : Loc Cert.HyenaIdeal.nD Cert.HyenaIdeal.τ Cert.HyenaIdeal.sig) → Buf (Elt Ideal) ℓ) (g : Dev Cert.HyenaIdeal.nD → PrngReg), Pre_HyenaIdeal m →
    θ_run (Cert.HyenaIdeal.defs (F := Ideal)) (onTc (τ := Cert.HyenaIdeal.τ) (Cert.HyenaIdeal.main (F := Ideal))) ⟨m, fun _ => 0, g⟩ (fun r => (∀ c : Dev Cert.HyenaIdeal.nD,
      r.2.mem ((c.tc : Thread Cert.HyenaIdeal.nD Cert.HyenaIdeal.τ).loc Cert.HyenaIdeal.main_arg0) = m ((c.tc : Thread Cert.HyenaIdeal.nD Cert.HyenaIdeal.τ).loc Cert.HyenaIdeal.main_arg0)
      ∧ r.2.mem ((c.tc : Thread Cert.HyenaIdeal.nD Cert.HyenaIdeal.τ).loc Cert.HyenaIdeal.main_arg1) = m ((c.tc : Thread Cert.HyenaIdeal.nD Cert.HyenaIdeal.τ).loc Cert.HyenaIdeal.main_arg1)
      ∧ r.2.mem ((c.tc : Thread Cert.HyenaIdeal.nD Cert.HyenaIdeal.τ).loc Cert.HyenaIdeal.main_arg2) = m ((c.tc : Thread Cert.HyenaIdeal.nD Cert.HyenaIdeal.τ).loc Cert.HyenaIdeal.main_arg2)
      ∧ r.2.mem ((c.tc : Thread Cert.HyenaIdeal.nD Cert.HyenaIdeal.τ).loc Cert.HyenaIdeal.main_arg3) = m ((c.tc : Thread Cert.HyenaIdeal.nD Cert.HyenaIdeal.τ).loc Cert.HyenaIdeal.main_arg3))
      ∧ r.2.sem = fun _ => 0)

def quiescent_HyenaRefIdeal [hHyenaRefIdeal : Cert.HyenaRefIdeal.Facts] : Prop :=
  ∀ (m : (ℓ : Loc Cert.HyenaRefIdeal.nD Cert.HyenaRefIdeal.τ Cert.HyenaRefIdeal.sig) → Buf (Elt Ideal) ℓ) (g : Dev Cert.HyenaRefIdeal.nD → PrngReg), Pre_HyenaRefIdeal m →
    θ_run (Cert.HyenaRefIdeal.defs (F := Ideal)) (onTc (τ := Cert.HyenaRefIdeal.τ) (Cert.HyenaRefIdeal.main (F := Ideal))) ⟨m, fun _ => 0, g⟩ (fun r => (∀ c : Dev Cert.HyenaRefIdeal.nD,
      r.2.mem ((c.tc : Thread Cert.HyenaRefIdeal.nD Cert.HyenaRefIdeal.τ).loc Cert.HyenaRefIdeal.main_arg0) = m ((c.tc : Thread Cert.HyenaRefIdeal.nD Cert.HyenaRefIdeal.τ).loc Cert.HyenaRefIdeal.main_arg0)
      ∧ r.2.mem ((c.tc : Thread Cert.HyenaRefIdeal.nD Cert.HyenaRefIdeal.τ).loc Cert.HyenaRefIdeal.main_arg1) = m ((c.tc : Thread Cert.HyenaRefIdeal.nD Cert.HyenaRefIdeal.τ).loc Cert.HyenaRefIdeal.main_arg1)
      ∧ r.2.mem ((c.tc : Thread Cert.HyenaRefIdeal.nD Cert.HyenaRefIdeal.τ).loc Cert.HyenaRefIdeal.main_arg2) = m ((c.tc : Thread Cert.HyenaRefIdeal.nD Cert.HyenaRefIdeal.τ).loc Cert.HyenaRefIdeal.main_arg2)
      ∧ r.2.mem ((c.tc : Thread Cert.HyenaRefIdeal.nD Cert.HyenaRefIdeal.τ).loc Cert.HyenaRefIdeal.main_arg3) = m ((c.tc : Thread Cert.HyenaRefIdeal.nD Cert.HyenaRefIdeal.τ).loc Cert.HyenaRefIdeal.main_arg3))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ r.2.sem = fun _ => 0)

def quiescent_GlaInRefIdeal [hGlaInRefIdeal : Cert.GlaInRefIdeal.Facts] : Prop :=
  ∀ (m : (ℓ : Loc Cert.GlaInRefIdeal.nD Cert.GlaInRefIdeal.τ Cert.GlaInRefIdeal.sig) → Buf (Elt Ideal) ℓ) (g : Dev Cert.GlaInRefIdeal.nD → PrngReg), Pre_GlaInRefIdeal m →
    θ_run (Cert.GlaInRefIdeal.defs (F := Ideal)) (onTc (τ := Cert.GlaInRefIdeal.τ) (Cert.GlaInRefIdeal.main (F := Ideal))) ⟨m, fun _ => 0, g⟩ (fun r => (∀ c : Dev Cert.GlaInRefIdeal.nD,
      r.2.mem ((c.tc : Thread Cert.GlaInRefIdeal.nD Cert.GlaInRefIdeal.τ).loc Cert.GlaInRefIdeal.main_arg0) = m ((c.tc : Thread Cert.GlaInRefIdeal.nD Cert.GlaInRefIdeal.τ).loc Cert.GlaInRefIdeal.main_arg0)
      ∧ r.2.mem ((c.tc : Thread Cert.GlaInRefIdeal.nD Cert.GlaInRefIdeal.τ).loc Cert.GlaInRefIdeal.main_arg1) = m ((c.tc : Thread Cert.GlaInRefIdeal.nD Cert.GlaInRefIdeal.τ).loc Cert.GlaInRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_LnSample [hLnSample : Cert.LnSample.Facts] : Prop :=
  ∀ (m : (ℓ : Loc Cert.LnSample.nD Cert.LnSample.τ Cert.LnSample.sig) → Buf (Elt Bits) ℓ) (g : Dev Cert.LnSample.nD → PrngReg), Pre_LnSample m →
    θ_run (Cert.LnSample.defs (F := Bits)) (onTc (τ := Cert.LnSample.τ) (Cert.LnSample.main (F := Bits))) ⟨m, fun _ => 0, g⟩ (fun r => (∀ c : Dev Cert.LnSample.nD,
      r.2.mem ((c.tc : Thread Cert.LnSample.nD Cert.LnSample.τ).loc Cert.LnSample.main_arg0) = m ((c.tc : Thread Cert.LnSample.nD Cert.LnSample.τ).loc Cert.LnSample.main_arg0)
      ∧ r.2.mem ((c.tc : Thread Cert.LnSample.nD Cert.LnSample.τ).loc Cert.LnSample.main_arg1) = m ((c.tc : Thread Cert.LnSample.nD Cert.LnSample.τ).loc Cert.LnSample.main_arg1)
      ∧ r.2.mem ((c.tc : Thread Cert.LnSample.nD Cert.LnSample.τ).loc Cert.LnSample.main_arg2) = m ((c.tc : Thread Cert.LnSample.nD Cert.LnSample.τ).loc Cert.LnSample.main_arg2)
      ∧ r.2.mem ((c.tc : Thread Cert.LnSample.nD Cert.LnSample.τ).loc Cert.LnSample.main_arg3) = m ((c.tc : Thread Cert.LnSample.nD Cert.LnSample.τ).loc Cert.LnSample.main_arg3)
      ∧ r.2.mem ((c.tc : Thread Cert.LnSample.nD Cert.LnSample.τ).loc Cert.LnSample.main_arg4) = m ((c.tc : Thread Cert.LnSample.nD Cert.LnSample.τ).loc Cert.LnSample.main_arg4))
      ∧ r.2.sem = fun _ => 0)

def quiescent_LnSampleIdeal [hLnSampleIdeal : Cert.LnSampleIdeal.Facts] : Prop :=
  ∀ (m : (ℓ : Loc Cert.LnSampleIdeal.nD Cert.LnSampleIdeal.τ Cert.LnSampleIdeal.sig) → Buf (Elt Ideal) ℓ) (g : Dev Cert.LnSampleIdeal.nD → PrngReg), Pre_LnSampleIdeal m →
    θ_run (Cert.LnSampleIdeal.defs (F := Ideal)) (onTc (τ := Cert.LnSampleIdeal.τ) (Cert.LnSampleIdeal.main (F := Ideal))) ⟨m, fun _ => 0, g⟩ (fun r => (∀ c : Dev Cert.LnSampleIdeal.nD,
      r.2.mem ((c.tc : Thread Cert.LnSampleIdeal.nD Cert.LnSampleIdeal.τ).loc Cert.LnSampleIdeal.main_arg0) = m ((c.tc : Thread Cert.LnSampleIdeal.nD Cert.LnSampleIdeal.τ).loc Cert.LnSampleIdeal.main_arg0)
      ∧ r.2.mem ((c.tc : Thread Cert.LnSampleIdeal.nD Cert.LnSampleIdeal.τ).loc Cert.LnSampleIdeal.main_arg1) = m ((c.tc : Thread Cert.LnSampleIdeal.nD Cert.LnSampleIdeal.τ).loc Cert.LnSampleIdeal.main_arg1)
      ∧ r.2.mem ((c.tc : Thread Cert.LnSampleIdeal.nD Cert.LnSampleIdeal.τ).loc Cert.LnSampleIdeal.main_arg2) = m ((c.tc : Thread Cert.LnSampleIdeal.nD Cert.LnSampleIdeal.τ).loc Cert.LnSampleIdeal.main_arg2)
      ∧ r.2.mem ((c.tc : Thread Cert.LnSampleIdeal.nD Cert.LnSampleIdeal.τ).loc Cert.LnSampleIdeal.main_arg3) = m ((c.tc : Thread Cert.LnSampleIdeal.nD Cert.LnSampleIdeal.τ).loc Cert.LnSampleIdeal.main_arg3)
      ∧ r.2.mem ((c.tc : Thread Cert.LnSampleIdeal.nD Cert.LnSampleIdeal.τ).loc Cert.LnSampleIdeal.main_arg4) = m ((c.tc : Thread Cert.LnSampleIdeal.nD Cert.LnSampleIdeal.τ).loc Cert.LnSampleIdeal.main_arg4))
      ∧ r.2.sem = fun _ => 0)

def quiescent_LnSampleRefIdeal [hLnSampleRefIdeal : Cert.LnSampleRefIdeal.Facts] : Prop :=
  ∀ (m : (ℓ : Loc Cert.LnSampleRefIdeal.nD Cert.LnSampleRefIdeal.τ Cert.LnSampleRefIdeal.sig) → Buf (Elt Ideal) ℓ) (g : Dev Cert.LnSampleRefIdeal.nD → PrngReg), Pre_LnSampleRefIdeal m →
    θ_run (Cert.LnSampleRefIdeal.defs (F := Ideal)) (onTc (τ := Cert.LnSampleRefIdeal.τ) (Cert.LnSampleRefIdeal.main (F := Ideal))) ⟨m, fun _ => 0, g⟩ (fun r => (∀ c : Dev Cert.LnSampleRefIdeal.nD,
      r.2.mem ((c.tc : Thread Cert.LnSampleRefIdeal.nD Cert.LnSampleRefIdeal.τ).loc Cert.LnSampleRefIdeal.main_arg0) = m ((c.tc : Thread Cert.LnSampleRefIdeal.nD Cert.LnSampleRefIdeal.τ).loc Cert.LnSampleRefIdeal.main_arg0)
      ∧ r.2.mem ((c.tc : Thread Cert.LnSampleRefIdeal.nD Cert.LnSampleRefIdeal.τ).loc Cert.LnSampleRefIdeal.main_arg1) = m ((c.tc : Thread Cert.LnSampleRefIdeal.nD Cert.LnSampleRefIdeal.τ).loc Cert.LnSampleRefIdeal.main_arg1)
      ∧ r.2.mem ((c.tc : Thread Cert.LnSampleRefIdeal.nD Cert.LnSampleRefIdeal.τ).loc Cert.LnSampleRefIdeal.main_arg2) = m ((c.tc : Thread Cert.LnSampleRefIdeal.nD Cert.LnSampleRefIdeal.τ).loc Cert.LnSampleRefIdeal.main_arg2)
      ∧ r.2.mem ((c.tc : Thread Cert.LnSampleRefIdeal.nD Cert.LnSampleRefIdeal.τ).loc Cert.LnSampleRefIdeal.main_arg3) = m ((c.tc : Thread Cert.LnSampleRefIdeal.nD Cert.LnSampleRefIdeal.τ).loc Cert.LnSampleRefIdeal.main_arg3)
      ∧ r.2.mem ((c.tc : Thread Cert.LnSampleRefIdeal.nD Cert.LnSampleRefIdeal.τ).loc Cert.LnSampleRefIdeal.main_arg4) = m ((c.tc : Thread Cert.LnSampleRefIdeal.nD Cert.LnSampleRefIdeal.τ).loc Cert.LnSampleRefIdeal.main_arg4))
      ∧ r.2.sem = fun _ => 0)

def quiescent_LnPrompt [hLnPrompt : Cert.LnPrompt.Facts] : Prop :=
  ∀ (m : (ℓ : Loc Cert.LnPrompt.nD Cert.LnPrompt.τ Cert.LnPrompt.sig) → Buf (Elt Bits) ℓ) (g : Dev Cert.LnPrompt.nD → PrngReg), Pre_LnPrompt m →
    θ_run (Cert.LnPrompt.defs (F := Bits)) (onTc (τ := Cert.LnPrompt.τ) (Cert.LnPrompt.main (F := Bits))) ⟨m, fun _ => 0, g⟩ (fun r => (∀ c : Dev Cert.LnPrompt.nD,
      r.2.mem ((c.tc : Thread Cert.LnPrompt.nD Cert.LnPrompt.τ).loc Cert.LnPrompt.main_arg0) = m ((c.tc : Thread Cert.LnPrompt.nD Cert.LnPrompt.τ).loc Cert.LnPrompt.main_arg0)
      ∧ r.2.mem ((c.tc : Thread Cert.LnPrompt.nD Cert.LnPrompt.τ).loc Cert.LnPrompt.main_arg1) = m ((c.tc : Thread Cert.LnPrompt.nD Cert.LnPrompt.τ).loc Cert.LnPrompt.main_arg1)
      ∧ r.2.mem ((c.tc : Thread Cert.LnPrompt.nD Cert.LnPrompt.τ).loc Cert.LnPrompt.main_arg2) = m ((c.tc : Thread Cert.LnPrompt.nD Cert.LnPrompt.τ).loc Cert.LnPrompt.main_arg2)
      ∧ r.2.mem ((c.tc : Thread Cert.LnPrompt.nD Cert.LnPrompt.τ).loc Cert.LnPrompt.main_arg3) = m ((c.tc : Thread Cert.LnPrompt.nD Cert.LnPrompt.τ).loc Cert.LnPrompt.main_arg3)
      ∧ r.2.mem ((c.tc : Thread Cert.LnPrompt.nD Cert.LnPrompt.τ).loc Cert.LnPrompt.main_arg4) = m ((c.tc : Thread Cert.LnPrompt.nD Cert.LnPrompt.τ).loc Cert.LnPrompt.main_arg4))
      ∧ r.2.sem = fun _ => 0)

def quiescent_LnPromptIdeal [hLnPromptIdeal : Cert.LnPromptIdeal.Facts] : Prop :=
  ∀ (m : (ℓ : Loc Cert.LnPromptIdeal.nD Cert.LnPromptIdeal.τ Cert.LnPromptIdeal.sig) → Buf (Elt Ideal) ℓ) (g : Dev Cert.LnPromptIdeal.nD → PrngReg), Pre_LnPromptIdeal m →
    θ_run (Cert.LnPromptIdeal.defs (F := Ideal)) (onTc (τ := Cert.LnPromptIdeal.τ) (Cert.LnPromptIdeal.main (F := Ideal))) ⟨m, fun _ => 0, g⟩ (fun r => (∀ c : Dev Cert.LnPromptIdeal.nD,
      r.2.mem ((c.tc : Thread Cert.LnPromptIdeal.nD Cert.LnPromptIdeal.τ).loc Cert.LnPromptIdeal.main_arg0) = m ((c.tc : Thread Cert.LnPromptIdeal.nD Cert.LnPromptIdeal.τ).loc Cert.LnPromptIdeal.main_arg0)
      ∧ r.2.mem ((c.tc : Thread Cert.LnPromptIdeal.nD Cert.LnPromptIdeal.τ).loc Cert.LnPromptIdeal.main_arg1) = m ((c.tc : Thread Cert.LnPromptIdeal.nD Cert.LnPromptIdeal.τ).loc Cert.LnPromptIdeal.main_arg1)
      ∧ r.2.mem ((c.tc : Thread Cert.LnPromptIdeal.nD Cert.LnPromptIdeal.τ).loc Cert.LnPromptIdeal.main_arg2) = m ((c.tc : Thread Cert.LnPromptIdeal.nD Cert.LnPromptIdeal.τ).loc Cert.LnPromptIdeal.main_arg2)
      ∧ r.2.mem ((c.tc : Thread Cert.LnPromptIdeal.nD Cert.LnPromptIdeal.τ).loc Cert.LnPromptIdeal.main_arg3) = m ((c.tc : Thread Cert.LnPromptIdeal.nD Cert.LnPromptIdeal.τ).loc Cert.LnPromptIdeal.main_arg3)
      ∧ r.2.mem ((c.tc : Thread Cert.LnPromptIdeal.nD Cert.LnPromptIdeal.τ).loc Cert.LnPromptIdeal.main_arg4) = m ((c.tc : Thread Cert.LnPromptIdeal.nD Cert.LnPromptIdeal.τ).loc Cert.LnPromptIdeal.main_arg4))
      ∧ r.2.sem = fun _ => 0)

def quiescent_LnPromptRefIdeal [hLnPromptRefIdeal : Cert.LnPromptRefIdeal.Facts] : Prop :=
  ∀ (m : (ℓ : Loc Cert.LnPromptRefIdeal.nD Cert.LnPromptRefIdeal.τ Cert.LnPromptRefIdeal.sig) → Buf (Elt Ideal) ℓ) (g : Dev Cert.LnPromptRefIdeal.nD → PrngReg), Pre_LnPromptRefIdeal m →
    θ_run (Cert.LnPromptRefIdeal.defs (F := Ideal)) (onTc (τ := Cert.LnPromptRefIdeal.τ) (Cert.LnPromptRefIdeal.main (F := Ideal))) ⟨m, fun _ => 0, g⟩ (fun r => (∀ c : Dev Cert.LnPromptRefIdeal.nD,
      r.2.mem ((c.tc : Thread Cert.LnPromptRefIdeal.nD Cert.LnPromptRefIdeal.τ).loc Cert.LnPromptRefIdeal.main_arg0) = m ((c.tc : Thread Cert.LnPromptRefIdeal.nD Cert.LnPromptRefIdeal.τ).loc Cert.LnPromptRefIdeal.main_arg0)
      ∧ r.2.mem ((c.tc : Thread Cert.LnPromptRefIdeal.nD Cert.LnPromptRefIdeal.τ).loc Cert.LnPromptRefIdeal.main_arg1) = m ((c.tc : Thread Cert.LnPromptRefIdeal.nD Cert.LnPromptRefIdeal.τ).loc Cert.LnPromptRefIdeal.main_arg1)
      ∧ r.2.mem ((c.tc : Thread Cert.LnPromptRefIdeal.nD Cert.LnPromptRefIdeal.τ).loc Cert.LnPromptRefIdeal.main_arg2) = m ((c.tc : Thread Cert.LnPromptRefIdeal.nD Cert.LnPromptRefIdeal.τ).loc Cert.LnPromptRefIdeal.main_arg2)
      ∧ r.2.mem ((c.tc : Thread Cert.LnPromptRefIdeal.nD Cert.LnPromptRefIdeal.τ).loc Cert.LnPromptRefIdeal.main_arg3) = m ((c.tc : Thread Cert.LnPromptRefIdeal.nD Cert.LnPromptRefIdeal.τ).loc Cert.LnPromptRefIdeal.main_arg3)
      ∧ r.2.mem ((c.tc : Thread Cert.LnPromptRefIdeal.nD Cert.LnPromptRefIdeal.τ).loc Cert.LnPromptRefIdeal.main_arg4) = m ((c.tc : Thread Cert.LnPromptRefIdeal.nD Cert.LnPromptRefIdeal.τ).loc Cert.LnPromptRefIdeal.main_arg4))
      ∧ r.2.sem = fun _ => 0)

def quiescent_GlaState [hGlaState : Cert.GlaState.Facts] : Prop :=
  ∀ (m : (ℓ : Loc Cert.GlaState.nD Cert.GlaState.τ Cert.GlaState.sig) → Buf (Elt Bits) ℓ) (g : Dev Cert.GlaState.nD → PrngReg), Pre_GlaState m →
    θ_run (Cert.GlaState.defs (F := Bits)) (onTc (τ := Cert.GlaState.τ) (Cert.GlaState.main (F := Bits))) ⟨m, fun _ => 0, g⟩ (fun r => (∀ c : Dev Cert.GlaState.nD,
      r.2.mem ((c.tc : Thread Cert.GlaState.nD Cert.GlaState.τ).loc Cert.GlaState.main_arg0) = m ((c.tc : Thread Cert.GlaState.nD Cert.GlaState.τ).loc Cert.GlaState.main_arg0)
      ∧ r.2.mem ((c.tc : Thread Cert.GlaState.nD Cert.GlaState.τ).loc Cert.GlaState.main_arg1) = m ((c.tc : Thread Cert.GlaState.nD Cert.GlaState.τ).loc Cert.GlaState.main_arg1)
      ∧ r.2.mem ((c.tc : Thread Cert.GlaState.nD Cert.GlaState.τ).loc Cert.GlaState.main_arg2) = m ((c.tc : Thread Cert.GlaState.nD Cert.GlaState.τ).loc Cert.GlaState.main_arg2)
      ∧ r.2.mem ((c.tc : Thread Cert.GlaState.nD Cert.GlaState.τ).loc Cert.GlaState.main_arg3) = m ((c.tc : Thread Cert.GlaState.nD Cert.GlaState.τ).loc Cert.GlaState.main_arg3))
      ∧ r.2.sem = fun _ => 0)

def quiescent_GlaStateIdeal [hGlaStateIdeal : Cert.GlaStateIdeal.Facts] : Prop :=
  ∀ (m : (ℓ : Loc Cert.GlaStateIdeal.nD Cert.GlaStateIdeal.τ Cert.GlaStateIdeal.sig) → Buf (Elt Ideal) ℓ) (g : Dev Cert.GlaStateIdeal.nD → PrngReg), Pre_GlaStateIdeal m →
    θ_run (Cert.GlaStateIdeal.defs (F := Ideal)) (onTc (τ := Cert.GlaStateIdeal.τ) (Cert.GlaStateIdeal.main (F := Ideal))) ⟨m, fun _ => 0, g⟩ (fun r => (∀ c : Dev Cert.GlaStateIdeal.nD,
      r.2.mem ((c.tc : Thread Cert.GlaStateIdeal.nD Cert.GlaStateIdeal.τ).loc Cert.GlaStateIdeal.main_arg0) = m ((c.tc : Thread Cert.GlaStateIdeal.nD Cert.GlaStateIdeal.τ).loc Cert.GlaStateIdeal.main_arg0)
      ∧ r.2.mem ((c.tc : Thread Cert.GlaStateIdeal.nD Cert.GlaStateIdeal.τ).loc Cert.GlaStateIdeal.main_arg1) = m ((c.tc : Thread Cert.GlaStateIdeal.nD Cert.GlaStateIdeal.τ).loc Cert.GlaStateIdeal.main_arg1)
      ∧ r.2.mem ((c.tc : Thread Cert.GlaStateIdeal.nD Cert.GlaStateIdeal.τ).loc Cert.GlaStateIdeal.main_arg2) = m ((c.tc : Thread Cert.GlaStateIdeal.nD Cert.GlaStateIdeal.τ).loc Cert.GlaStateIdeal.main_arg2)
      ∧ r.2.mem ((c.tc : Thread Cert.GlaStateIdeal.nD Cert.GlaStateIdeal.τ).loc Cert.GlaStateIdeal.main_arg3) = m ((c.tc : Thread Cert.GlaStateIdeal.nD Cert.GlaStateIdeal.τ).loc Cert.GlaStateIdeal.main_arg3))
      ∧ r.2.sem = fun _ => 0)

def quiescent_GlaStateIdeal_pre_gates_finite [hGlaStateIdeal : Cert.GlaStateIdeal.Facts] [hPre_gates_finite : Cert.Pre_gates_finite.Facts] : Prop :=
  ∀ (m : (ℓ : Loc Cert.GlaStateIdeal.nD Cert.GlaStateIdeal.τ Cert.GlaStateIdeal.sig) → Buf (Elt Ideal) ℓ) (g : Dev Cert.GlaStateIdeal.nD → PrngReg), Pre_GlaStateIdeal_gates_finite m →
    θ_run (Cert.GlaStateIdeal.defs (F := Ideal)) (onTc (τ := Cert.GlaStateIdeal.τ) (Cert.GlaStateIdeal.main (F := Ideal))) ⟨m, fun _ => 0, g⟩ (fun r => (∀ c : Dev Cert.GlaStateIdeal.nD,
      r.2.mem ((c.tc : Thread Cert.GlaStateIdeal.nD Cert.GlaStateIdeal.τ).loc Cert.GlaStateIdeal.main_arg0) = m ((c.tc : Thread Cert.GlaStateIdeal.nD Cert.GlaStateIdeal.τ).loc Cert.GlaStateIdeal.main_arg0)
      ∧ r.2.mem ((c.tc : Thread Cert.GlaStateIdeal.nD Cert.GlaStateIdeal.τ).loc Cert.GlaStateIdeal.main_arg1) = m ((c.tc : Thread Cert.GlaStateIdeal.nD Cert.GlaStateIdeal.τ).loc Cert.GlaStateIdeal.main_arg1)
      ∧ r.2.mem ((c.tc : Thread Cert.GlaStateIdeal.nD Cert.GlaStateIdeal.τ).loc Cert.GlaStateIdeal.main_arg2) = m ((c.tc : Thread Cert.GlaStateIdeal.nD Cert.GlaStateIdeal.τ).loc Cert.GlaStateIdeal.main_arg2)
      ∧ r.2.mem ((c.tc : Thread Cert.GlaStateIdeal.nD Cert.GlaStateIdeal.τ).loc Cert.GlaStateIdeal.main_arg3) = m ((c.tc : Thread Cert.GlaStateIdeal.nD Cert.GlaStateIdeal.τ).loc Cert.GlaStateIdeal.main_arg3))
      ∧ r.2.sem = fun _ => 0)

def quiescent_GlaStateRefIdeal [hGlaStateRefIdeal : Cert.GlaStateRefIdeal.Facts] : Prop :=
  ∀ (m : (ℓ : Loc Cert.GlaStateRefIdeal.nD Cert.GlaStateRefIdeal.τ Cert.GlaStateRefIdeal.sig) → Buf (Elt Ideal) ℓ) (g : Dev Cert.GlaStateRefIdeal.nD → PrngReg), Pre_GlaStateRefIdeal m →
    θ_run (Cert.GlaStateRefIdeal.defs (F := Ideal)) (onTc (τ := Cert.GlaStateRefIdeal.τ) (Cert.GlaStateRefIdeal.main (F := Ideal))) ⟨m, fun _ => 0, g⟩ (fun r => (∀ c : Dev Cert.GlaStateRefIdeal.nD,
      r.2.mem ((c.tc : Thread Cert.GlaStateRefIdeal.nD Cert.GlaStateRefIdeal.τ).loc Cert.GlaStateRefIdeal.main_arg0) = m ((c.tc : Thread Cert.GlaStateRefIdeal.nD Cert.GlaStateRefIdeal.τ).loc Cert.GlaStateRefIdeal.main_arg0)
      ∧ r.2.mem ((c.tc : Thread Cert.GlaStateRefIdeal.nD Cert.GlaStateRefIdeal.τ).loc Cert.GlaStateRefIdeal.main_arg1) = m ((c.tc : Thread Cert.GlaStateRefIdeal.nD Cert.GlaStateRefIdeal.τ).loc Cert.GlaStateRefIdeal.main_arg1)
      ∧ r.2.mem ((c.tc : Thread Cert.GlaStateRefIdeal.nD Cert.GlaStateRefIdeal.τ).loc Cert.GlaStateRefIdeal.main_arg2) = m ((c.tc : Thread Cert.GlaStateRefIdeal.nD Cert.GlaStateRefIdeal.τ).loc Cert.GlaStateRefIdeal.main_arg2)
      ∧ r.2.mem ((c.tc : Thread Cert.GlaStateRefIdeal.nD Cert.GlaStateRefIdeal.τ).loc Cert.GlaStateRefIdeal.main_arg3) = m ((c.tc : Thread Cert.GlaStateRefIdeal.nD Cert.GlaStateRefIdeal.τ).loc Cert.GlaStateRefIdeal.main_arg3))
      ∧ r.2.sem = fun _ => 0)

def quiescent_GlaStateRefIdeal_pre_gates_finite [hGlaStateRefIdeal : Cert.GlaStateRefIdeal.Facts] [hPre_gates_finite : Cert.Pre_gates_finite.Facts] : Prop :=
  ∀ (m : (ℓ : Loc Cert.GlaStateRefIdeal.nD Cert.GlaStateRefIdeal.τ Cert.GlaStateRefIdeal.sig) → Buf (Elt Ideal) ℓ) (g : Dev Cert.GlaStateRefIdeal.nD → PrngReg), Pre_GlaStateRefIdeal_gates_finite m →
    θ_run (Cert.GlaStateRefIdeal.defs (F := Ideal)) (onTc (τ := Cert.GlaStateRefIdeal.τ) (Cert.GlaStateRefIdeal.main (F := Ideal))) ⟨m, fun _ => 0, g⟩ (fun r => (∀ c : Dev Cert.GlaStateRefIdeal.nD,
      r.2.mem ((c.tc : Thread Cert.GlaStateRefIdeal.nD Cert.GlaStateRefIdeal.τ).loc Cert.GlaStateRefIdeal.main_arg0) = m ((c.tc : Thread Cert.GlaStateRefIdeal.nD Cert.GlaStateRefIdeal.τ).loc Cert.GlaStateRefIdeal.main_arg0)
      ∧ r.2.mem ((c.tc : Thread Cert.GlaStateRefIdeal.nD Cert.GlaStateRefIdeal.τ).loc Cert.GlaStateRefIdeal.main_arg1) = m ((c.tc : Thread Cert.GlaStateRefIdeal.nD Cert.GlaStateRefIdeal.τ).loc Cert.GlaStateRefIdeal.main_arg1)
      ∧ r.2.mem ((c.tc : Thread Cert.GlaStateRefIdeal.nD Cert.GlaStateRefIdeal.τ).loc Cert.GlaStateRefIdeal.main_arg2) = m ((c.tc : Thread Cert.GlaStateRefIdeal.nD Cert.GlaStateRefIdeal.τ).loc Cert.GlaStateRefIdeal.main_arg2)
      ∧ r.2.mem ((c.tc : Thread Cert.GlaStateRefIdeal.nD Cert.GlaStateRefIdeal.τ).loc Cert.GlaStateRefIdeal.main_arg3) = m ((c.tc : Thread Cert.GlaStateRefIdeal.nD Cert.GlaStateRefIdeal.τ).loc Cert.GlaStateRefIdeal.main_arg3))
      ∧ r.2.sem = fun _ => 0)

def preserves_Sconv_SconvIdeal : Prop :=
  True

def algebraic_SconvIdeal_SconvRefIdeal [hSconvIdeal : Cert.SconvIdeal.Facts] [hSconvRefIdeal : Cert.SconvRefIdeal.Facts] : Prop :=
  ∀ (m : (ℓ : Loc Cert.SconvIdeal.nD Cert.SconvIdeal.τ Cert.SconvIdeal.sig) → Buf (Elt Ideal) ℓ) (g : Dev Cert.SconvIdeal.nD → PrngReg)
    (m' : (ℓ : Loc Cert.SconvRefIdeal.nD Cert.SconvRefIdeal.τ Cert.SconvRefIdeal.sig) → Buf (Elt Ideal) ℓ) (g' : Dev Cert.SconvRefIdeal.nD → PrngReg), Pre_SconvIdeal m →
    (∀ c : Dev Cert.SconvIdeal.nD,
      m' ((c.tc : Thread Cert.SconvRefIdeal.nD Cert.SconvRefIdeal.τ).loc Cert.SconvRefIdeal.main_arg0) = m ((c.tc : Thread Cert.SconvIdeal.nD Cert.SconvIdeal.τ).loc Cert.SconvIdeal.main_arg0)
      ∧ m' ((c.tc : Thread Cert.SconvRefIdeal.nD Cert.SconvRefIdeal.τ).loc Cert.SconvRefIdeal.main_arg1) = m ((c.tc : Thread Cert.SconvIdeal.nD Cert.SconvIdeal.τ).loc Cert.SconvIdeal.main_arg1)
      ∧ m' ((c.tc : Thread Cert.SconvRefIdeal.nD Cert.SconvRefIdeal.τ).loc Cert.SconvRefIdeal.main_arg2) = m ((c.tc : Thread Cert.SconvIdeal.nD Cert.SconvIdeal.τ).loc Cert.SconvIdeal.main_arg2)) →
    ∃ (v0 : (c : Dev Cert.SconvIdeal.nD) → Buf (Elt Ideal) ((c.tc : Thread Cert.SconvIdeal.nD Cert.SconvIdeal.τ).loc Cert.SconvIdeal.main_v4)),
      θ_run (Cert.SconvIdeal.defs (F := Ideal)) (onTc (τ := Cert.SconvIdeal.τ) (Cert.SconvIdeal.main (F := Ideal))) ⟨m, fun _ => 0, g⟩ (fun r => ∀ c : Dev Cert.SconvIdeal.nD,
          r.2.mem ((c.tc : Thread Cert.SconvIdeal.nD Cert.SconvIdeal.τ).loc Cert.SconvIdeal.main_v4) = v0 c
          ∧ r.2.mem ((c.tc : Thread Cert.SconvIdeal.nD Cert.SconvIdeal.τ).loc Cert.SconvIdeal.main_arg0) = m ((c.tc : Thread Cert.SconvIdeal.nD Cert.SconvIdeal.τ).loc Cert.SconvIdeal.main_arg0)
          ∧ r.2.mem ((c.tc : Thread Cert.SconvIdeal.nD Cert.SconvIdeal.τ).loc Cert.SconvIdeal.main_arg1) = m ((c.tc : Thread Cert.SconvIdeal.nD Cert.SconvIdeal.τ).loc Cert.SconvIdeal.main_arg1)
          ∧ r.2.mem ((c.tc : Thread Cert.SconvIdeal.nD Cert.SconvIdeal.τ).loc Cert.SconvIdeal.main_arg2) = m ((c.tc : Thread Cert.SconvIdeal.nD Cert.SconvIdeal.τ).loc Cert.SconvIdeal.main_arg2))
      ∧ θ_run (Cert.SconvRefIdeal.defs (F := Ideal)) (onTc (τ := Cert.SconvRefIdeal.τ) (Cert.SconvRefIdeal.main (F := Ideal))) ⟨m', fun _ => 0, g'⟩ (fun r => ∀ c : Dev Cert.SconvRefIdeal.nD,
          r.2.mem ((c.tc : Thread Cert.SconvRefIdeal.nD Cert.SconvRefIdeal.τ).loc Cert.SconvRefIdeal.main_v36) = v0 c
          ∧ r.2.mem ((c.tc : Thread Cert.SconvRefIdeal.nD Cert.SconvRefIdeal.τ).loc Cert.SconvRefIdeal.main_arg0) = m' ((c.tc : Thread Cert.SconvRefIdeal.nD Cert.SconvRefIdeal.τ).loc Cert.SconvRefIdeal.main_arg0)
          ∧ r.2.mem ((c.tc : Thread Cert.SconvRefIdeal.nD Cert.SconvRefIdeal.τ).loc Cert.SconvRefIdeal.main_arg1) = m' ((c.tc : Thread Cert.SconvRefIdeal.nD Cert.SconvRefIdeal.τ).loc Cert.SconvRefIdeal.main_arg1)
          ∧ r.2.mem ((c.tc : Thread Cert.SconvRefIdeal.nD Cert.SconvRefIdeal.τ).loc Cert.SconvRefIdeal.main_arg2) = m' ((c.tc : Thread Cert.SconvRefIdeal.nD Cert.SconvRefIdeal.τ).loc Cert.SconvRefIdeal.main_arg2))

def preserves_Hyena_HyenaIdeal : Prop :=
  True

def algebraic_HyenaIdeal_HyenaRefIdeal [hHyenaIdeal : Cert.HyenaIdeal.Facts] [hHyenaRefIdeal : Cert.HyenaRefIdeal.Facts] : Prop :=
  ∀ (m : (ℓ : Loc Cert.HyenaIdeal.nD Cert.HyenaIdeal.τ Cert.HyenaIdeal.sig) → Buf (Elt Ideal) ℓ) (g : Dev Cert.HyenaIdeal.nD → PrngReg)
    (m' : (ℓ : Loc Cert.HyenaRefIdeal.nD Cert.HyenaRefIdeal.τ Cert.HyenaRefIdeal.sig) → Buf (Elt Ideal) ℓ) (g' : Dev Cert.HyenaRefIdeal.nD → PrngReg), Pre_HyenaIdeal m →
    (∀ c : Dev Cert.HyenaIdeal.nD,
      m' ((c.tc : Thread Cert.HyenaRefIdeal.nD Cert.HyenaRefIdeal.τ).loc Cert.HyenaRefIdeal.main_arg0) = m ((c.tc : Thread Cert.HyenaIdeal.nD Cert.HyenaIdeal.τ).loc Cert.HyenaIdeal.main_arg0)
      ∧ m' ((c.tc : Thread Cert.HyenaRefIdeal.nD Cert.HyenaRefIdeal.τ).loc Cert.HyenaRefIdeal.main_arg1) = m ((c.tc : Thread Cert.HyenaIdeal.nD Cert.HyenaIdeal.τ).loc Cert.HyenaIdeal.main_arg1)
      ∧ m' ((c.tc : Thread Cert.HyenaRefIdeal.nD Cert.HyenaRefIdeal.τ).loc Cert.HyenaRefIdeal.main_arg2) = m ((c.tc : Thread Cert.HyenaIdeal.nD Cert.HyenaIdeal.τ).loc Cert.HyenaIdeal.main_arg2)
      ∧ m' ((c.tc : Thread Cert.HyenaRefIdeal.nD Cert.HyenaRefIdeal.τ).loc Cert.HyenaRefIdeal.main_arg3) = m ((c.tc : Thread Cert.HyenaIdeal.nD Cert.HyenaIdeal.τ).loc Cert.HyenaIdeal.main_arg3)) →
    ∃ (v0 : (c : Dev Cert.HyenaIdeal.nD) → Buf (Elt Ideal) ((c.tc : Thread Cert.HyenaIdeal.nD Cert.HyenaIdeal.τ).loc Cert.HyenaIdeal.main_v3_0)) (v1 : (c : Dev Cert.HyenaIdeal.nD) → Buf (Elt Ideal) ((c.tc : Thread Cert.HyenaIdeal.nD Cert.HyenaIdeal.τ).loc Cert.HyenaIdeal.main_v3_1)),
      θ_run (Cert.HyenaIdeal.defs (F := Ideal)) (onTc (τ := Cert.HyenaIdeal.τ) (Cert.HyenaIdeal.main (F := Ideal))) ⟨m, fun _ => 0, g⟩ (fun r => ∀ c : Dev Cert.HyenaIdeal.nD,
          r.2.mem ((c.tc : Thread Cert.HyenaIdeal.nD Cert.HyenaIdeal.τ).loc Cert.HyenaIdeal.main_v3_0) = v0 c
          ∧ r.2.mem ((c.tc : Thread Cert.HyenaIdeal.nD Cert.HyenaIdeal.τ).loc Cert.HyenaIdeal.main_v3_1) = v1 c
          ∧ r.2.mem ((c.tc : Thread Cert.HyenaIdeal.nD Cert.HyenaIdeal.τ).loc Cert.HyenaIdeal.main_arg0) = m ((c.tc : Thread Cert.HyenaIdeal.nD Cert.HyenaIdeal.τ).loc Cert.HyenaIdeal.main_arg0)
          ∧ r.2.mem ((c.tc : Thread Cert.HyenaIdeal.nD Cert.HyenaIdeal.τ).loc Cert.HyenaIdeal.main_arg1) = m ((c.tc : Thread Cert.HyenaIdeal.nD Cert.HyenaIdeal.τ).loc Cert.HyenaIdeal.main_arg1)
          ∧ r.2.mem ((c.tc : Thread Cert.HyenaIdeal.nD Cert.HyenaIdeal.τ).loc Cert.HyenaIdeal.main_arg2) = m ((c.tc : Thread Cert.HyenaIdeal.nD Cert.HyenaIdeal.τ).loc Cert.HyenaIdeal.main_arg2)
          ∧ r.2.mem ((c.tc : Thread Cert.HyenaIdeal.nD Cert.HyenaIdeal.τ).loc Cert.HyenaIdeal.main_arg3) = m ((c.tc : Thread Cert.HyenaIdeal.nD Cert.HyenaIdeal.τ).loc Cert.HyenaIdeal.main_arg3))
      ∧ θ_run (Cert.HyenaRefIdeal.defs (F := Ideal)) (onTc (τ := Cert.HyenaRefIdeal.τ) (Cert.HyenaRefIdeal.main (F := Ideal))) ⟨m', fun _ => 0, g'⟩ (fun r => ∀ c : Dev Cert.HyenaRefIdeal.nD,
          r.2.mem ((c.tc : Thread Cert.HyenaRefIdeal.nD Cert.HyenaRefIdeal.τ).loc Cert.HyenaRefIdeal.main_v35) = v0 c
          ∧ r.2.mem ((c.tc : Thread Cert.HyenaRefIdeal.nD Cert.HyenaRefIdeal.τ).loc Cert.HyenaRefIdeal.main_v37) = v1 c
          ∧ r.2.mem ((c.tc : Thread Cert.HyenaRefIdeal.nD Cert.HyenaRefIdeal.τ).loc Cert.HyenaRefIdeal.main_arg0) = m' ((c.tc : Thread Cert.HyenaRefIdeal.nD Cert.HyenaRefIdeal.τ).loc Cert.HyenaRefIdeal.main_arg0)
          ∧ r.2.mem ((c.tc : Thread Cert.HyenaRefIdeal.nD Cert.HyenaRefIdeal.τ).loc Cert.HyenaRefIdeal.main_arg1) = m' ((c.tc : Thread Cert.HyenaRefIdeal.nD Cert.HyenaRefIdeal.τ).loc Cert.HyenaRefIdeal.main_arg1)
          ∧ r.2.mem ((c.tc : Thread Cert.HyenaRefIdeal.nD Cert.HyenaRefIdeal.τ).loc Cert.HyenaRefIdeal.main_arg2) = m' ((c.tc : Thread Cert.HyenaRefIdeal.nD Cert.HyenaRefIdeal.τ).loc Cert.HyenaRefIdeal.main_arg2)
          ∧ r.2.mem ((c.tc : Thread Cert.HyenaRefIdeal.nD Cert.HyenaRefIdeal.τ).loc Cert.HyenaRefIdeal.main_arg3) = m' ((c.tc : Thread Cert.HyenaRefIdeal.nD Cert.HyenaRefIdeal.τ).loc Cert.HyenaRefIdeal.main_arg3))

def preserves_GlaIn_GlaInIdeal : Prop :=
  True

def algebraic_GlaInIdeal_GlaInRefIdeal [hGlaInIdeal : Cert.GlaInIdeal.Facts] [hGlaInRefIdeal : Cert.GlaInRefIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.GlaInRefIdeal.nD Cert.GlaInRefIdeal.τ Cert.GlaInRefIdeal.sig) → Buf (Elt Ideal) ℓ) (g' : Dev Cert.GlaInRefIdeal.nD → PrngReg), Pre_GlaInIdeal m →
    (∀ c : Dev Cert.GlaInIdeal.nD,
      m' ((c.tc : Thread Cert.GlaInRefIdeal.nD Cert.GlaInRefIdeal.τ).loc Cert.GlaInRefIdeal.main_arg0) = m ((c.tc : Thread Cert.GlaInIdeal.nD Cert.GlaInIdeal.τ).loc Cert.GlaInIdeal.main_arg0)
      ∧ m' ((c.tc : Thread Cert.GlaInRefIdeal.nD Cert.GlaInRefIdeal.τ).loc Cert.GlaInRefIdeal.main_arg1) = m ((c.tc : Thread Cert.GlaInIdeal.nD Cert.GlaInIdeal.τ).loc Cert.GlaInIdeal.main_arg1)) →
    ∃ (v0 : (c : Dev Cert.GlaInIdeal.nD) → Buf (Elt Ideal) ((c.tc : Thread Cert.GlaInIdeal.nD Cert.GlaInIdeal.τ).loc Cert.GlaInIdeal.main_v3)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v3) = v0 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ θ_run (Cert.GlaInRefIdeal.defs (F := Ideal)) (onTc (τ := Cert.GlaInRefIdeal.τ) (Cert.GlaInRefIdeal.main (F := Ideal))) ⟨m', fun _ => 0, g'⟩ (fun r => ∀ c : Dev Cert.GlaInRefIdeal.nD,
          r.2.mem ((c.tc : Thread Cert.GlaInRefIdeal.nD Cert.GlaInRefIdeal.τ).loc Cert.GlaInRefIdeal.main_v3) = v0 c
          ∧ r.2.mem ((c.tc : Thread Cert.GlaInRefIdeal.nD Cert.GlaInRefIdeal.τ).loc Cert.GlaInRefIdeal.main_arg0) = m' ((c.tc : Thread Cert.GlaInRefIdeal.nD Cert.GlaInRefIdeal.τ).loc Cert.GlaInRefIdeal.main_arg0)
          ∧ r.2.mem ((c.tc : Thread Cert.GlaInRefIdeal.nD Cert.GlaInRefIdeal.τ).loc Cert.GlaInRefIdeal.main_arg1) = m' ((c.tc : Thread Cert.GlaInRefIdeal.nD Cert.GlaInRefIdeal.τ).loc Cert.GlaInRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_LnSample_LnSampleIdeal : Prop :=
  True

def algebraic_LnSampleIdeal_LnSampleRefIdeal [hLnSampleIdeal : Cert.LnSampleIdeal.Facts] [hLnSampleRefIdeal : Cert.LnSampleRefIdeal.Facts] : Prop :=
  ∀ (m : (ℓ : Loc Cert.LnSampleIdeal.nD Cert.LnSampleIdeal.τ Cert.LnSampleIdeal.sig) → Buf (Elt Ideal) ℓ) (g : Dev Cert.LnSampleIdeal.nD → PrngReg)
    (m' : (ℓ : Loc Cert.LnSampleRefIdeal.nD Cert.LnSampleRefIdeal.τ Cert.LnSampleRefIdeal.sig) → Buf (Elt Ideal) ℓ) (g' : Dev Cert.LnSampleRefIdeal.nD → PrngReg), Pre_LnSampleIdeal m →
    (∀ c : Dev Cert.LnSampleIdeal.nD,
      m' ((c.tc : Thread Cert.LnSampleRefIdeal.nD Cert.LnSampleRefIdeal.τ).loc Cert.LnSampleRefIdeal.main_arg0) = m ((c.tc : Thread Cert.LnSampleIdeal.nD Cert.LnSampleIdeal.τ).loc Cert.LnSampleIdeal.main_arg0)
      ∧ m' ((c.tc : Thread Cert.LnSampleRefIdeal.nD Cert.LnSampleRefIdeal.τ).loc Cert.LnSampleRefIdeal.main_arg1) = m ((c.tc : Thread Cert.LnSampleIdeal.nD Cert.LnSampleIdeal.τ).loc Cert.LnSampleIdeal.main_arg1)
      ∧ m' ((c.tc : Thread Cert.LnSampleRefIdeal.nD Cert.LnSampleRefIdeal.τ).loc Cert.LnSampleRefIdeal.main_arg2) = m ((c.tc : Thread Cert.LnSampleIdeal.nD Cert.LnSampleIdeal.τ).loc Cert.LnSampleIdeal.main_arg2)
      ∧ m' ((c.tc : Thread Cert.LnSampleRefIdeal.nD Cert.LnSampleRefIdeal.τ).loc Cert.LnSampleRefIdeal.main_arg3) = m ((c.tc : Thread Cert.LnSampleIdeal.nD Cert.LnSampleIdeal.τ).loc Cert.LnSampleIdeal.main_arg3)
      ∧ m' ((c.tc : Thread Cert.LnSampleRefIdeal.nD Cert.LnSampleRefIdeal.τ).loc Cert.LnSampleRefIdeal.main_arg4) = m ((c.tc : Thread Cert.LnSampleIdeal.nD Cert.LnSampleIdeal.τ).loc Cert.LnSampleIdeal.main_arg4)) →
    ∃ (v0 : (c : Dev Cert.LnSampleIdeal.nD) → Buf (Elt Ideal) ((c.tc : Thread Cert.LnSampleIdeal.nD Cert.LnSampleIdeal.τ).loc Cert.LnSampleIdeal.main_v3)),
      θ_run (Cert.LnSampleIdeal.defs (F := Ideal)) (onTc (τ := Cert.LnSampleIdeal.τ) (Cert.LnSampleIdeal.main (F := Ideal))) ⟨m, fun _ => 0, g⟩ (fun r => ∀ c : Dev Cert.LnSampleIdeal.nD,
          r.2.mem ((c.tc : Thread Cert.LnSampleIdeal.nD Cert.LnSampleIdeal.τ).loc Cert.LnSampleIdeal.main_v3) = v0 c
          ∧ r.2.mem ((c.tc : Thread Cert.LnSampleIdeal.nD Cert.LnSampleIdeal.τ).loc Cert.LnSampleIdeal.main_arg0) = m ((c.tc : Thread Cert.LnSampleIdeal.nD Cert.LnSampleIdeal.τ).loc Cert.LnSampleIdeal.main_arg0)
          ∧ r.2.mem ((c.tc : Thread Cert.LnSampleIdeal.nD Cert.LnSampleIdeal.τ).loc Cert.LnSampleIdeal.main_arg1) = m ((c.tc : Thread Cert.LnSampleIdeal.nD Cert.LnSampleIdeal.τ).loc Cert.LnSampleIdeal.main_arg1)
          ∧ r.2.mem ((c.tc : Thread Cert.LnSampleIdeal.nD Cert.LnSampleIdeal.τ).loc Cert.LnSampleIdeal.main_arg2) = m ((c.tc : Thread Cert.LnSampleIdeal.nD Cert.LnSampleIdeal.τ).loc Cert.LnSampleIdeal.main_arg2)
          ∧ r.2.mem ((c.tc : Thread Cert.LnSampleIdeal.nD Cert.LnSampleIdeal.τ).loc Cert.LnSampleIdeal.main_arg3) = m ((c.tc : Thread Cert.LnSampleIdeal.nD Cert.LnSampleIdeal.τ).loc Cert.LnSampleIdeal.main_arg3)
          ∧ r.2.mem ((c.tc : Thread Cert.LnSampleIdeal.nD Cert.LnSampleIdeal.τ).loc Cert.LnSampleIdeal.main_arg4) = m ((c.tc : Thread Cert.LnSampleIdeal.nD Cert.LnSampleIdeal.τ).loc Cert.LnSampleIdeal.main_arg4))
      ∧ θ_run (Cert.LnSampleRefIdeal.defs (F := Ideal)) (onTc (τ := Cert.LnSampleRefIdeal.τ) (Cert.LnSampleRefIdeal.main (F := Ideal))) ⟨m', fun _ => 0, g'⟩ (fun r => ∀ c : Dev Cert.LnSampleRefIdeal.nD,
          r.2.mem ((c.tc : Thread Cert.LnSampleRefIdeal.nD Cert.LnSampleRefIdeal.τ).loc Cert.LnSampleRefIdeal.main_v31) = v0 c
          ∧ r.2.mem ((c.tc : Thread Cert.LnSampleRefIdeal.nD Cert.LnSampleRefIdeal.τ).loc Cert.LnSampleRefIdeal.main_arg0) = m' ((c.tc : Thread Cert.LnSampleRefIdeal.nD Cert.LnSampleRefIdeal.τ).loc Cert.LnSampleRefIdeal.main_arg0)
          ∧ r.2.mem ((c.tc : Thread Cert.LnSampleRefIdeal.nD Cert.LnSampleRefIdeal.τ).loc Cert.LnSampleRefIdeal.main_arg1) = m' ((c.tc : Thread Cert.LnSampleRefIdeal.nD Cert.LnSampleRefIdeal.τ).loc Cert.LnSampleRefIdeal.main_arg1)
          ∧ r.2.mem ((c.tc : Thread Cert.LnSampleRefIdeal.nD Cert.LnSampleRefIdeal.τ).loc Cert.LnSampleRefIdeal.main_arg2) = m' ((c.tc : Thread Cert.LnSampleRefIdeal.nD Cert.LnSampleRefIdeal.τ).loc Cert.LnSampleRefIdeal.main_arg2)
          ∧ r.2.mem ((c.tc : Thread Cert.LnSampleRefIdeal.nD Cert.LnSampleRefIdeal.τ).loc Cert.LnSampleRefIdeal.main_arg3) = m' ((c.tc : Thread Cert.LnSampleRefIdeal.nD Cert.LnSampleRefIdeal.τ).loc Cert.LnSampleRefIdeal.main_arg3)
          ∧ r.2.mem ((c.tc : Thread Cert.LnSampleRefIdeal.nD Cert.LnSampleRefIdeal.τ).loc Cert.LnSampleRefIdeal.main_arg4) = m' ((c.tc : Thread Cert.LnSampleRefIdeal.nD Cert.LnSampleRefIdeal.τ).loc Cert.LnSampleRefIdeal.main_arg4))

def preserves_LnPrompt_LnPromptIdeal : Prop :=
  True

def algebraic_LnPromptIdeal_LnPromptRefIdeal [hLnPromptIdeal : Cert.LnPromptIdeal.Facts] [hLnPromptRefIdeal : Cert.LnPromptRefIdeal.Facts] : Prop :=
  ∀ (m : (ℓ : Loc Cert.LnPromptIdeal.nD Cert.LnPromptIdeal.τ Cert.LnPromptIdeal.sig) → Buf (Elt Ideal) ℓ) (g : Dev Cert.LnPromptIdeal.nD → PrngReg)
    (m' : (ℓ : Loc Cert.LnPromptRefIdeal.nD Cert.LnPromptRefIdeal.τ Cert.LnPromptRefIdeal.sig) → Buf (Elt Ideal) ℓ) (g' : Dev Cert.LnPromptRefIdeal.nD → PrngReg), Pre_LnPromptIdeal m →
    (∀ c : Dev Cert.LnPromptIdeal.nD,
      m' ((c.tc : Thread Cert.LnPromptRefIdeal.nD Cert.LnPromptRefIdeal.τ).loc Cert.LnPromptRefIdeal.main_arg0) = m ((c.tc : Thread Cert.LnPromptIdeal.nD Cert.LnPromptIdeal.τ).loc Cert.LnPromptIdeal.main_arg0)
      ∧ m' ((c.tc : Thread Cert.LnPromptRefIdeal.nD Cert.LnPromptRefIdeal.τ).loc Cert.LnPromptRefIdeal.main_arg1) = m ((c.tc : Thread Cert.LnPromptIdeal.nD Cert.LnPromptIdeal.τ).loc Cert.LnPromptIdeal.main_arg1)
      ∧ m' ((c.tc : Thread Cert.LnPromptRefIdeal.nD Cert.LnPromptRefIdeal.τ).loc Cert.LnPromptRefIdeal.main_arg2) = m ((c.tc : Thread Cert.LnPromptIdeal.nD Cert.LnPromptIdeal.τ).loc Cert.LnPromptIdeal.main_arg2)
      ∧ m' ((c.tc : Thread Cert.LnPromptRefIdeal.nD Cert.LnPromptRefIdeal.τ).loc Cert.LnPromptRefIdeal.main_arg3) = m ((c.tc : Thread Cert.LnPromptIdeal.nD Cert.LnPromptIdeal.τ).loc Cert.LnPromptIdeal.main_arg3)
      ∧ m' ((c.tc : Thread Cert.LnPromptRefIdeal.nD Cert.LnPromptRefIdeal.τ).loc Cert.LnPromptRefIdeal.main_arg4) = m ((c.tc : Thread Cert.LnPromptIdeal.nD Cert.LnPromptIdeal.τ).loc Cert.LnPromptIdeal.main_arg4)) →
    ∃ (v0 : (c : Dev Cert.LnPromptIdeal.nD) → Buf (Elt Ideal) ((c.tc : Thread Cert.LnPromptIdeal.nD Cert.LnPromptIdeal.τ).loc Cert.LnPromptIdeal.main_v3)),
      θ_run (Cert.LnPromptIdeal.defs (F := Ideal)) (onTc (τ := Cert.LnPromptIdeal.τ) (Cert.LnPromptIdeal.main (F := Ideal))) ⟨m, fun _ => 0, g⟩ (fun r => ∀ c : Dev Cert.LnPromptIdeal.nD,
          r.2.mem ((c.tc : Thread Cert.LnPromptIdeal.nD Cert.LnPromptIdeal.τ).loc Cert.LnPromptIdeal.main_v3) = v0 c
          ∧ r.2.mem ((c.tc : Thread Cert.LnPromptIdeal.nD Cert.LnPromptIdeal.τ).loc Cert.LnPromptIdeal.main_arg0) = m ((c.tc : Thread Cert.LnPromptIdeal.nD Cert.LnPromptIdeal.τ).loc Cert.LnPromptIdeal.main_arg0)
          ∧ r.2.mem ((c.tc : Thread Cert.LnPromptIdeal.nD Cert.LnPromptIdeal.τ).loc Cert.LnPromptIdeal.main_arg1) = m ((c.tc : Thread Cert.LnPromptIdeal.nD Cert.LnPromptIdeal.τ).loc Cert.LnPromptIdeal.main_arg1)
          ∧ r.2.mem ((c.tc : Thread Cert.LnPromptIdeal.nD Cert.LnPromptIdeal.τ).loc Cert.LnPromptIdeal.main_arg2) = m ((c.tc : Thread Cert.LnPromptIdeal.nD Cert.LnPromptIdeal.τ).loc Cert.LnPromptIdeal.main_arg2)
          ∧ r.2.mem ((c.tc : Thread Cert.LnPromptIdeal.nD Cert.LnPromptIdeal.τ).loc Cert.LnPromptIdeal.main_arg3) = m ((c.tc : Thread Cert.LnPromptIdeal.nD Cert.LnPromptIdeal.τ).loc Cert.LnPromptIdeal.main_arg3)
          ∧ r.2.mem ((c.tc : Thread Cert.LnPromptIdeal.nD Cert.LnPromptIdeal.τ).loc Cert.LnPromptIdeal.main_arg4) = m ((c.tc : Thread Cert.LnPromptIdeal.nD Cert.LnPromptIdeal.τ).loc Cert.LnPromptIdeal.main_arg4))
      ∧ θ_run (Cert.LnPromptRefIdeal.defs (F := Ideal)) (onTc (τ := Cert.LnPromptRefIdeal.τ) (Cert.LnPromptRefIdeal.main (F := Ideal))) ⟨m', fun _ => 0, g'⟩ (fun r => ∀ c : Dev Cert.LnPromptRefIdeal.nD,
          r.2.mem ((c.tc : Thread Cert.LnPromptRefIdeal.nD Cert.LnPromptRefIdeal.τ).loc Cert.LnPromptRefIdeal.main_v33) = v0 c
          ∧ r.2.mem ((c.tc : Thread Cert.LnPromptRefIdeal.nD Cert.LnPromptRefIdeal.τ).loc Cert.LnPromptRefIdeal.main_arg0) = m' ((c.tc : Thread Cert.LnPromptRefIdeal.nD Cert.LnPromptRefIdeal.τ).loc Cert.LnPromptRefIdeal.main_arg0)
          ∧ r.2.mem ((c.tc : Thread Cert.LnPromptRefIdeal.nD Cert.LnPromptRefIdeal.τ).loc Cert.LnPromptRefIdeal.main_arg1) = m' ((c.tc : Thread Cert.LnPromptRefIdeal.nD Cert.LnPromptRefIdeal.τ).loc Cert.LnPromptRefIdeal.main_arg1)
          ∧ r.2.mem ((c.tc : Thread Cert.LnPromptRefIdeal.nD Cert.LnPromptRefIdeal.τ).loc Cert.LnPromptRefIdeal.main_arg2) = m' ((c.tc : Thread Cert.LnPromptRefIdeal.nD Cert.LnPromptRefIdeal.τ).loc Cert.LnPromptRefIdeal.main_arg2)
          ∧ r.2.mem ((c.tc : Thread Cert.LnPromptRefIdeal.nD Cert.LnPromptRefIdeal.τ).loc Cert.LnPromptRefIdeal.main_arg3) = m' ((c.tc : Thread Cert.LnPromptRefIdeal.nD Cert.LnPromptRefIdeal.τ).loc Cert.LnPromptRefIdeal.main_arg3)
          ∧ r.2.mem ((c.tc : Thread Cert.LnPromptRefIdeal.nD Cert.LnPromptRefIdeal.τ).loc Cert.LnPromptRefIdeal.main_arg4) = m' ((c.tc : Thread Cert.LnPromptRefIdeal.nD Cert.LnPromptRefIdeal.τ).loc Cert.LnPromptRefIdeal.main_arg4))

def preserves_GlaState_GlaStateIdeal : Prop :=
  IdealRules.named_const.Statement Cert.GlaStateIdeal.κ "log2e_tau" .f32 0x3DB8AA3B#32 (((16 * (Real.log 2))⁻¹ : ℝ) : EReal)

def algebraic_GlaStateIdeal_GlaStateRefIdeal_on_forward_pre_gates_finite [hGlaStateIdeal : Cert.GlaStateIdeal.Facts] [hGlaStateRefIdeal : Cert.GlaStateRefIdeal.Facts] [hPre_gates_finite : Cert.Pre_gates_finite.Facts] [hOn_forward : Cert.On_forward.Facts] : Prop :=
  ∀ (m : (ℓ : Loc Cert.GlaStateIdeal.nD Cert.GlaStateIdeal.τ Cert.GlaStateIdeal.sig) → Buf (Elt Ideal) ℓ) (g : Dev Cert.GlaStateIdeal.nD → PrngReg)
    (m' : (ℓ : Loc Cert.GlaStateRefIdeal.nD Cert.GlaStateRefIdeal.τ Cert.GlaStateRefIdeal.sig) → Buf (Elt Ideal) ℓ) (g' : Dev Cert.GlaStateRefIdeal.nD → PrngReg), Pre_GlaStateIdeal_gates_finite m →
    (∀ c : Dev Cert.GlaStateIdeal.nD,
      m' ((c.tc : Thread Cert.GlaStateRefIdeal.nD Cert.GlaStateRefIdeal.τ).loc Cert.GlaStateRefIdeal.main_arg0) = m ((c.tc : Thread Cert.GlaStateIdeal.nD Cert.GlaStateIdeal.τ).loc Cert.GlaStateIdeal.main_arg0)
      ∧ m' ((c.tc : Thread Cert.GlaStateRefIdeal.nD Cert.GlaStateRefIdeal.τ).loc Cert.GlaStateRefIdeal.main_arg1) = m ((c.tc : Thread Cert.GlaStateIdeal.nD Cert.GlaStateIdeal.τ).loc Cert.GlaStateIdeal.main_arg1)
      ∧ m' ((c.tc : Thread Cert.GlaStateRefIdeal.nD Cert.GlaStateRefIdeal.τ).loc Cert.GlaStateRefIdeal.main_arg2) = m ((c.tc : Thread Cert.GlaStateIdeal.nD Cert.GlaStateIdeal.τ).loc Cert.GlaStateIdeal.main_arg2)
      ∧ m' ((c.tc : Thread Cert.GlaStateRefIdeal.nD Cert.GlaStateRefIdeal.τ).loc Cert.GlaStateRefIdeal.main_arg3) = m ((c.tc : Thread Cert.GlaStateIdeal.nD Cert.GlaStateIdeal.τ).loc Cert.GlaStateIdeal.main_arg3)) →
    ∃ (v0 : (c : Dev Cert.GlaStateIdeal.nD) → Buf (Elt Ideal) ((c.tc : Thread Cert.GlaStateIdeal.nD Cert.GlaStateIdeal.τ).loc Cert.GlaStateIdeal.main_v48_1)),
      θ_run (Cert.GlaStateIdeal.defs (F := Ideal)) (onTc (τ := Cert.GlaStateIdeal.τ) (Cert.GlaStateIdeal.main (F := Ideal))) ⟨m, fun _ => 0, g⟩ (fun r => ∀ c : Dev Cert.GlaStateIdeal.nD,
          (∀ i : (⟨5, ![32, 2, 4, 512, 1024]⟩ : Shape).Idx, (Cert.On_forward.fn (F := Ideal) (m ((c.tc : Thread Cert.GlaStateIdeal.nD Cert.GlaStateIdeal.τ).loc Cert.GlaStateIdeal.main_arg0)) (m ((c.tc : Thread Cert.GlaStateIdeal.nD Cert.GlaStateIdeal.τ).loc Cert.GlaStateIdeal.main_arg1)) (m ((c.tc : Thread Cert.GlaStateIdeal.nD Cert.GlaStateIdeal.τ).loc Cert.GlaStateIdeal.main_arg2)) (m ((c.tc : Thread Cert.GlaStateIdeal.nD Cert.GlaStateIdeal.τ).loc Cert.GlaStateIdeal.main_arg3))) i = 1#1 → r.2.mem ((c.tc : Thread Cert.GlaStateIdeal.nD Cert.GlaStateIdeal.τ).loc Cert.GlaStateIdeal.main_v48_1) i = v0 c i)
          ∧ r.2.mem ((c.tc : Thread Cert.GlaStateIdeal.nD Cert.GlaStateIdeal.τ).loc Cert.GlaStateIdeal.main_arg0) = m ((c.tc : Thread Cert.GlaStateIdeal.nD Cert.GlaStateIdeal.τ).loc Cert.GlaStateIdeal.main_arg0)
          ∧ r.2.mem ((c.tc : Thread Cert.GlaStateIdeal.nD Cert.GlaStateIdeal.τ).loc Cert.GlaStateIdeal.main_arg1) = m ((c.tc : Thread Cert.GlaStateIdeal.nD Cert.GlaStateIdeal.τ).loc Cert.GlaStateIdeal.main_arg1)
          ∧ r.2.mem ((c.tc : Thread Cert.GlaStateIdeal.nD Cert.GlaStateIdeal.τ).loc Cert.GlaStateIdeal.main_arg2) = m ((c.tc : Thread Cert.GlaStateIdeal.nD Cert.GlaStateIdeal.τ).loc Cert.GlaStateIdeal.main_arg2)
          ∧ r.2.mem ((c.tc : Thread Cert.GlaStateIdeal.nD Cert.GlaStateIdeal.τ).loc Cert.GlaStateIdeal.main_arg3) = m ((c.tc : Thread Cert.GlaStateIdeal.nD Cert.GlaStateIdeal.τ).loc Cert.GlaStateIdeal.main_arg3))
      ∧ θ_run (Cert.GlaStateRefIdeal.defs (F := Ideal)) (onTc (τ := Cert.GlaStateRefIdeal.τ) (Cert.GlaStateRefIdeal.main (F := Ideal))) ⟨m', fun _ => 0, g'⟩ (fun r => ∀ c : Dev Cert.GlaStateRefIdeal.nD,
          (∀ i : (⟨5, ![32, 2, 4, 512, 1024]⟩ : Shape).Idx, (Cert.On_forward.fn (F := Ideal) (m ((c.tc : Thread Cert.GlaStateIdeal.nD Cert.GlaStateIdeal.τ).loc Cert.GlaStateIdeal.main_arg0)) (m ((c.tc : Thread Cert.GlaStateIdeal.nD Cert.GlaStateIdeal.τ).loc Cert.GlaStateIdeal.main_arg1)) (m ((c.tc : Thread Cert.GlaStateIdeal.nD Cert.GlaStateIdeal.τ).loc Cert.GlaStateIdeal.main_arg2)) (m ((c.tc : Thread Cert.GlaStateIdeal.nD Cert.GlaStateIdeal.τ).loc Cert.GlaStateIdeal.main_arg3))) i = 1#1 → r.2.mem ((c.tc : Thread Cert.GlaStateRefIdeal.nD Cert.GlaStateRefIdeal.τ).loc Cert.GlaStateRefIdeal.main_v31) i = v0 c i)
          ∧ r.2.mem ((c.tc : Thread Cert.GlaStateRefIdeal.nD Cert.GlaStateRefIdeal.τ).loc Cert.GlaStateRefIdeal.main_arg0) = m' ((c.tc : Thread Cert.GlaStateRefIdeal.nD Cert.GlaStateRefIdeal.τ).loc Cert.GlaStateRefIdeal.main_arg0)
          ∧ r.2.mem ((c.tc : Thread Cert.GlaStateRefIdeal.nD Cert.GlaStateRefIdeal.τ).loc Cert.GlaStateRefIdeal.main_arg1) = m' ((c.tc : Thread Cert.GlaStateRefIdeal.nD Cert.GlaStateRefIdeal.τ).loc Cert.GlaStateRefIdeal.main_arg1)
          ∧ r.2.mem ((c.tc : Thread Cert.GlaStateRefIdeal.nD Cert.GlaStateRefIdeal.τ).loc Cert.GlaStateRefIdeal.main_arg2) = m' ((c.tc : Thread Cert.GlaStateRefIdeal.nD Cert.GlaStateRefIdeal.τ).loc Cert.GlaStateRefIdeal.main_arg2)
          ∧ r.2.mem ((c.tc : Thread Cert.GlaStateRefIdeal.nD Cert.GlaStateRefIdeal.τ).loc Cert.GlaStateRefIdeal.main_arg3) = m' ((c.tc : Thread Cert.GlaStateRefIdeal.nD Cert.GlaStateRefIdeal.τ).loc Cert.GlaStateRefIdeal.main_arg3))

def Claim : Prop :=
  ∃ (hSconv : Cert.Sconv.Facts) (hSconvIdeal : Cert.SconvIdeal.Facts) (hSconvRefIdeal : Cert.SconvRefIdeal.Facts) (hHyena : Cert.Hyena.Facts) (hHyenaIdeal : Cert.HyenaIdeal.Facts) (hHyenaRefIdeal : Cert.HyenaRefIdeal.Facts) (hGlaIn : Cert.GlaIn.Facts) (hGlaInIdeal : Cert.GlaInIdeal.Facts) (hGlaInRefIdeal : Cert.GlaInRefIdeal.Facts) (hOut : Cert.Out.Facts) (hOutIdeal : Cert.OutIdeal.Facts) (hOutRefIdeal : Cert.OutRefIdeal.Facts) (hLnSample : Cert.LnSample.Facts) (hLnSampleIdeal : Cert.LnSampleIdeal.Facts) (hLnSampleRefIdeal : Cert.LnSampleRefIdeal.Facts) (hLnPrompt : Cert.LnPrompt.Facts) (hLnPromptIdeal : Cert.LnPromptIdeal.Facts) (hLnPromptRefIdeal : Cert.LnPromptRefIdeal.Facts) (hGlaState : Cert.GlaState.Facts) (hGlaStateIdeal : Cert.GlaStateIdeal.Facts) (hGlaStateRefIdeal : Cert.GlaStateRefIdeal.Facts) (hPre_gates_finite : Cert.Pre_gates_finite.Facts) (hOn_forward : Cert.On_forward.Facts),
    quiescent_Sconv (hSconv := hSconv)
    ∧ quiescent_SconvIdeal (hSconvIdeal := hSconvIdeal)
    ∧ quiescent_SconvRefIdeal (hSconvRefIdeal := hSconvRefIdeal)
    ∧ quiescent_Hyena (hHyena := hHyena)
    ∧ quiescent_HyenaIdeal (hHyenaIdeal := hHyenaIdeal)
    ∧ quiescent_HyenaRefIdeal (hHyenaRefIdeal := hHyenaRefIdeal)
    ∧ quiescent_GlaIn (hGlaIn := hGlaIn)
    ∧ quiescent_GlaInIdeal (hGlaInIdeal := hGlaInIdeal)
    ∧ quiescent_GlaInRefIdeal (hGlaInRefIdeal := hGlaInRefIdeal)
    ∧ quiescent_Out (hOut := hOut)
    ∧ quiescent_OutIdeal (hOutIdeal := hOutIdeal)
    ∧ quiescent_OutRefIdeal (hOutRefIdeal := hOutRefIdeal)
    ∧ quiescent_LnSample (hLnSample := hLnSample)
    ∧ quiescent_LnSampleIdeal (hLnSampleIdeal := hLnSampleIdeal)
    ∧ quiescent_LnSampleRefIdeal (hLnSampleRefIdeal := hLnSampleRefIdeal)
    ∧ quiescent_LnPrompt (hLnPrompt := hLnPrompt)
    ∧ quiescent_LnPromptIdeal (hLnPromptIdeal := hLnPromptIdeal)
    ∧ quiescent_LnPromptRefIdeal (hLnPromptRefIdeal := hLnPromptRefIdeal)
    ∧ quiescent_GlaState (hGlaState := hGlaState)
    ∧ quiescent_GlaStateIdeal (hGlaStateIdeal := hGlaStateIdeal)
    ∧ quiescent_GlaStateIdeal_pre_gates_finite (hGlaStateIdeal := hGlaStateIdeal) (hPre_gates_finite := hPre_gates_finite)
    ∧ quiescent_GlaStateRefIdeal (hGlaStateRefIdeal := hGlaStateRefIdeal)
    ∧ quiescent_GlaStateRefIdeal_pre_gates_finite (hGlaStateRefIdeal := hGlaStateRefIdeal) (hPre_gates_finite := hPre_gates_finite)
    ∧ preserves_Sconv_SconvIdeal
    ∧ algebraic_SconvIdeal_SconvRefIdeal (hSconvIdeal := hSconvIdeal) (hSconvRefIdeal := hSconvRefIdeal)
    ∧ preserves_Hyena_HyenaIdeal
    ∧ algebraic_HyenaIdeal_HyenaRefIdeal (hHyenaIdeal := hHyenaIdeal) (hHyenaRefIdeal := hHyenaRefIdeal)
    ∧ preserves_GlaIn_GlaInIdeal
    ∧ algebraic_GlaInIdeal_GlaInRefIdeal (hGlaInIdeal := hGlaInIdeal) (hGlaInRefIdeal := hGlaInRefIdeal)
    ∧ preserves_Out_OutIdeal
    ∧ algebraic_OutIdeal_OutRefIdeal (hOutIdeal := hOutIdeal) (hOutRefIdeal := hOutRefIdeal)
    ∧ preserves_LnSample_LnSampleIdeal
    ∧ algebraic_LnSampleIdeal_LnSampleRefIdeal (hLnSampleIdeal := hLnSampleIdeal) (hLnSampleRefIdeal := hLnSampleRefIdeal)
    ∧ preserves_LnPrompt_LnPromptIdeal
    ∧ algebraic_LnPromptIdeal_LnPromptRefIdeal (hLnPromptIdeal := hLnPromptIdeal) (hLnPromptRefIdeal := hLnPromptRefIdeal)
    ∧ preserves_GlaState_GlaStateIdeal
    ∧ algebraic_GlaStateIdeal_GlaStateRefIdeal_on_forward_pre_gates_finite (hGlaStateIdeal := hGlaStateIdeal) (hGlaStateRefIdeal := hGlaStateRefIdeal) (hPre_gates_finite := hPre_gates_finite) (hOn_forward := hOn_forward)
-- ==== On_forward.lean ====
abbrev S8192x12288 : Shape := ⟨2, ![8192, 12288]⟩
abbrev S8192x128 : Shape := ⟨2, ![8192, 128]⟩
abbrev S1x2x16x2048 : Shape := ⟨4, ![1, 2, 16, 2048]⟩
abbrev S1x2x2048 : Shape := ⟨3, ![1, 2, 2048]⟩
abbrev S32x2x4x512x1024 : Shape := ⟨5, ![32, 2, 4, 512, 1024]⟩
abbrev S_ : Shape := ⟨0, ![]⟩

class Facts : Prop where
  bcast_S_S32x2x4x512x1024 : S_.BroadcastsInDim S32x2x4x512x1024 (![] : Fin 0 → Fin S32x2x4x512x1024.rank)

variable [Facts]

def fn {F : FTy → Type} [FloatOps F] (main_arg0 : FVec F S8192x12288 .f32) (main_arg1 : FVec F S8192x128 .f32) (main_arg2 : FVec F S1x2x16x2048 .f32) (main_arg3 : FVec F S1x2x2048 .f32) : IVec S32x2x4x512x1024 1 :=
  let main_v0 : IVec S32x2x4x512x1024 32 := iotaInDim S32x2x4x512x1024 32 1
  let main_c : IVec S_ 32 := constantI S_ 32 0#32
  let main_v1 : IVec S32x2x4x512x1024 32 := broadcastInDim S32x2x4x512x1024 ![] bcast_S_S32x2x4x512x1024 main_c
  let main_v2 : IVec S32x2x4x512x1024 1 := cmpi .eq main_v0 main_v1
  main_v2
-- ==== Pre_gates_finite.lean ====
abbrev S8192x12288 : Shape := ⟨2, ![8192, 12288]⟩
abbrev S8192x128 : Shape := ⟨2, ![8192, 128]⟩
abbrev S1x2x16x2048 : Shape := ⟨4, ![1, 2, 16, 2048]⟩
abbrev S1x2x2048 : Shape := ⟨3, ![1, 2, 2048]⟩
abbrev S8192x16 : Shape := ⟨2, ![8192, 16]⟩
abbrev S_ : Shape := ⟨0, ![]⟩
abbrev S1x1x16x2048 : Shape := ⟨4, ![1, 1, 16, 2048]⟩
abbrev S16x2048 : Shape := ⟨2, ![16, 2048]⟩
abbrev S1x1x2048 : Shape := ⟨3, ![1, 1, 2048]⟩
abbrev S2048 : Shape := ⟨1, ![2048]⟩

class Facts : Prop where
  slices_S8192x128_S8192x16_0_0 : S8192x128.Slices ![0, 0] S8192x16
  bcast_S_S8192x16 : S_.BroadcastsInDim S8192x16 (![] : Fin 0 → Fin S8192x16.rank)
  reducesTo_S8192x16_S_d0_1 : S8192x16.ReducesTo [0, 1] S_
  h_S_ : 0 < S_.numel
  slices_S1x2x16x2048_S1x1x16x2048_0_0_0_0 : S1x2x16x2048.Slices ![0, 0, 0, 0] S1x1x16x2048
  shapeCasts_S1x1x16x2048_S16x2048 : S1x1x16x2048.ShapeCasts S16x2048
  bcast_S_S16x2048 : S_.BroadcastsInDim S16x2048 (![] : Fin 0 → Fin S16x2048.rank)
  reducesTo_S16x2048_S_d0_1 : S16x2048.ReducesTo [0, 1] S_
  slices_S1x2x2048_S1x1x2048_0_0_0 : S1x2x2048.Slices ![0, 0, 0] S1x1x2048
  shapeCasts_S1x1x2048_S2048 : S1x1x2048.ShapeCasts S2048
  bcast_S_S2048 : S_.BroadcastsInDim S2048 (![] : Fin 0 → Fin S2048.rank)
  reducesTo_S2048_S_d0 : S2048.ReducesTo [0] S_

variable [Facts]

def fn_part1 {F : FTy → Type} [FloatOps F] (main_v11 : IVec S_ 1) (main_v17 : IVec S_ 1) : IVec S_ 1 :=
  let main_v18 : IVec S_ 1 := andi main_v11 main_v17
  main_v18

def fn {F : FTy → Type} [FloatOps F] (main_arg0 : FVec F S8192x12288 .f32) (main_arg1 : FVec F S8192x128 .f32) (main_arg2 : FVec F S1x2x16x2048 .f32) (main_arg3 : FVec F S1x2x2048 .f32) : IVec S_ 1 :=
  let main_v0 : FVec F S8192x16 .f32 := (extractStridedSlice S8192x16 ![0, 0] · slices_S8192x128_S8192x16_0_0) main_arg1
  let main_v1 : FVec F S8192x16 .f32 := Host.absf main_v0
  let main_cst : FVec F S_ .f32 := constant S_ .f32 0x7F800000#32
  let main_v2 : FVec F S8192x16 .f32 := broadcastInDim S8192x16 ![] bcast_S_S8192x16 main_cst
  let main_v3 : IVec S8192x16 1 := cmpf .olt main_v1 main_v2
  let main_c : IVec S_ 1 := constantI S_ 1 1#1
  let main_v4 : IVec S_ 1 := (fun x v => Host.reduce IntOp.andi x v reducesTo_S8192x16_S_d0_1 h_S_) main_v3 main_c
  let main_v5 : FVec F S1x1x16x2048 .f32 := (extractStridedSlice S1x1x16x2048 ![0, 0, 0, 0] · slices_S1x2x16x2048_S1x1x16x2048_0_0_0_0) main_arg2
  let main_v6 : FVec F S16x2048 .f32 := shapeCast S16x2048 main_v5 shapeCasts_S1x1x16x2048_S16x2048
  let main_v7 : FVec F S16x2048 .f32 := Host.absf main_v6
  let main_cst_0 : FVec F S_ .f32 := constant S_ .f32 0x7F800000#32
  let main_v8 : FVec F S16x2048 .f32 := broadcastInDim S16x2048 ![] bcast_S_S16x2048 main_cst_0
  let main_v9 : IVec S16x2048 1 := cmpf .olt main_v7 main_v8
  let main_c_1 : IVec S_ 1 := constantI S_ 1 1#1
  let main_v10 : IVec S_ 1 := (fun x v => Host.reduce IntOp.andi x v reducesTo_S16x2048_S_d0_1 h_S_) main_v9 main_c_1
  let main_v11 : IVec S_ 1 := andi main_v4 main_v10
  let main_v12 : FVec F S1x1x2048 .f32 := (extractStridedSlice S1x1x2048 ![0, 0, 0] · slices_S1x2x2048_S1x1x2048_0_0_0) main_arg3
  let main_v13 : FVec F S2048 .f32 := shapeCast S2048 main_v12 shapeCasts_S1x1x2048_S2048
  let main_v14 : FVec F S2048 .f32 := Host.absf main_v13
  let main_cst_2 : FVec F S_ .f32 := constant S_ .f32 0x7F800000#32
  let main_v15 : FVec F S2048 .f32 := broadcastInDim S2048 ![] bcast_S_S2048 main_cst_2
  let main_v16 : IVec S2048 1 := cmpf .olt main_v14 main_v15
  let main_c_3 : IVec S_ 1 := constantI S_ 1 1#1
  let main_v17 : IVec S_ 1 := (fun x v => Host.reduce IntOp.andi x v reducesTo_S2048_S_d0 h_S_) main_v16 main_c_3
  fn_part1 (F := F) main_v11 main_v17
-- ==== Sconv.lean ====
abbrev S8x4096x4096 : Shape := ⟨3, ![8, 4096, 4096]⟩
abbrev S1x4096x16384 : Shape := ⟨3, ![1, 4096, 16384]⟩
abbrev S1x3x4096 : Shape := ⟨3, ![1, 3, 4096]⟩
abbrev S32768x4096 : Shape := ⟨2, ![32768, 4096]⟩
abbrev S4096x16384 : Shape := ⟨2, ![4096, 16384]⟩
abbrev S3x4096 : Shape := ⟨2, ![3, 4096]⟩
abbrev S1024x4096 : Shape := ⟨2, ![1024, 4096]⟩
abbrev S4096x256 : Shape := ⟨2, ![4096, 256]⟩
abbrev S3x256 : Shape := ⟨2, ![3, 256]⟩
abbrev S1024x256 : Shape := ⟨2, ![1024, 256]⟩
abbrev S1x256 : Shape := ⟨2, ![1, 256]⟩

abbrev nBuf : Space → Nat
  | .hbm => 8
  | .vmem => 14
  | .smem => 0
  | _ => 0

abbrev bufTy : (tb : Table) → Fin (tcTables nBuf tb) → BufTy
  | .hbm, ⟨0, _⟩ => ⟨S8x4096x4096, .bf16⟩
  | .hbm, ⟨1, _⟩ => ⟨S1x4096x16384, .f32⟩
  | .hbm, ⟨2, _⟩ => ⟨S1x3x4096, .f32⟩
  | .hbm, ⟨3, _⟩ => ⟨S32768x4096, .bf16⟩
  | .hbm, ⟨4, _⟩ => ⟨S4096x16384, .f32⟩
  | .hbm, ⟨5, _⟩ => ⟨S4096x16384, .bf16⟩
  | .hbm, ⟨6, _⟩ => ⟨S3x4096, .f32⟩
  | .hbm, ⟨7, _⟩ => ⟨S32768x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S3x256, .f32⟩
  | .local _ .vmem, ⟨11, _⟩ => ⟨S3x256, .f32⟩
  | .local _ .vmem, ⟨12, _⟩ => ⟨S1024x256, .bf16⟩
  | .local _ .vmem, ⟨13, _⟩ => ⟨S1024x256, .bf16⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SconvRefIdeal.lean ====
abbrev S8x4096x4096 : Shape := ⟨3, ![8, 4096, 4096]⟩
abbrev S1x4096x16384 : Shape := ⟨3, ![1, 4096, 16384]⟩
abbrev S1x3x4096 : Shape := ⟨3, ![1, 3, 4096]⟩
abbrev S4096x16384 : Shape := ⟨2, ![4096, 16384]⟩
abbrev S8x4096x16384 : Shape := ⟨3, ![8, 4096, 16384]⟩
abbrev S3x4096 : Shape := ⟨2, ![3, 4096]⟩
abbrev S512x64x4096 : Shape := ⟨3, ![512, 64, 4096]⟩
abbrev S_ : Shape := ⟨0, ![]⟩
abbrev S512x66x4096 : Shape := ⟨3, ![512, 66, 4096]⟩
abbrev S1x4096 : Shape := ⟨2, ![1, 4096]⟩
abbrev S4096 : Shape := ⟨1, ![4096]⟩
abbrev S1x1x4096 : Shape := ⟨3, ![1, 1, 4096]⟩
abbrev S32768x4096 : Shape := ⟨2, ![32768, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8x4096x4096, .bf16⟩
  | .hbm, ⟨1, _⟩ => ⟨S1x4096x16384, .f32⟩
  | .hbm, ⟨2, _⟩ => ⟨S1x3x4096, .f32⟩
  | .hbm, ⟨3, _⟩ => ⟨S8x4096x4096, .f32⟩
  | .hbm, ⟨4, _⟩ => ⟨S4096x16384, .f32⟩
  | .hbm, ⟨5, _⟩ => ⟨S8x4096x16384, .f32⟩
  | .hbm, ⟨6, _⟩ => ⟨S8x4096x4096, .f32⟩
  | .hbm, ⟨7, _⟩ => ⟨S8x4096x4096, .f32⟩
  | .hbm, ⟨8, _⟩ => ⟨S8x4096x4096, .f32⟩
  | .hbm, ⟨9, _⟩ => ⟨S8x4096x4096, .f32⟩
  | .hbm, ⟨10, _⟩ => ⟨S8x4096x4096, .f32⟩
  | .hbm, ⟨11, _⟩ => ⟨S3x4096, .f32⟩
  | .hbm, ⟨12, _⟩ => ⟨S512x64x4096, .f32⟩
  | .hbm, ⟨13, _⟩ => ⟨S_, .i32⟩
  | .hbm, ⟨14, _⟩ => ⟨S_, .f32⟩
  | .hbm, ⟨15, _⟩ => ⟨S512x66x4096, .f32⟩
  | .hbm, ⟨16, _⟩ => ⟨S512x64x4096, .f32⟩
  | .hbm, ⟨17, _⟩ => ⟨S1x4096, .f32⟩
  | .hbm, ⟨18, _⟩ => ⟨S4096, .f32⟩
  | .hbm, ⟨19, _⟩ => ⟨S1x1x4096, .f32⟩
  | .hbm, ⟨20, _⟩ => ⟨S512x64x4096, .f32⟩
  | .hbm, ⟨21, _⟩ => ⟨S512x64x4096, .f32⟩
  | .hbm, ⟨22, _⟩ => ⟨S512x64x4096, .f32⟩
  | .hbm, ⟨23, _⟩ => ⟨S1x4096, .f32⟩
  | .hbm, ⟨24, _⟩ => ⟨S4096, .f32⟩
  | .hbm, ⟨25, _⟩ => ⟨S1x1x4096, .f32⟩
  | .hbm, ⟨26, _⟩ => ⟨S512x64x4096, .f32⟩
  | .hbm, ⟨27, _⟩ => ⟨S512x64x4096, .f32⟩
  | .hbm, ⟨28, _⟩ => ⟨S512x64x4096, .f32⟩
  | .hbm, ⟨29, _⟩ => ⟨S512x64x4096, .f32⟩
  | .hbm, ⟨30, _⟩ => ⟨S1x4096, .f32⟩
  | .hbm, ⟨31, _⟩ => ⟨S4096, .f32⟩
  | .hbm, ⟨32, _⟩ => ⟨S1x1x4096, .f32⟩
  | .hbm, ⟨33, _⟩ => ⟨S512x64x4096, .f32⟩
  | .hbm, ⟨34, _⟩ => ⟨S512x64x4096, .f32⟩
  | .hbm, ⟨35, _⟩ => ⟨S512x64x4096, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S_, .f32⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S32768x4096, .f32⟩
  | .hbm, ⟨49, _⟩ => ⟨S32768x4096, .bf16⟩
  | _, _ => ⟨S8x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Hyena.lean ====
abbrev S8x4096x4096 : Shape := ⟨3, ![8, 4096, 4096]⟩
abbrev S4096x16384 : Shape := ⟨2, ![4096, 16384]⟩
abbrev S3x12288 : Shape := ⟨2, ![3, 12288]⟩
abbrev S12288 : Shape := ⟨1, ![12288]⟩
abbrev S32768x4096 : Shape := ⟨2, ![32768, 4096]⟩
abbrev S1x12288 : Shape := ⟨2, ![1, 12288]⟩
abbrev S1024x4096 : Shape := ⟨2, ![1024, 4096]⟩
abbrev S4096x256 : Shape := ⟨2, ![4096, 256]⟩
abbrev S3x256 : Shape := ⟨2, ![3, 256]⟩
abbrev S1x256 : Shape := ⟨2, ![1, 256]⟩
abbrev S1024x256 : Shape := ⟨2, ![1024, 256]⟩

abbrev nBuf : Space → Nat
  | .hbm => 9
  | .vmem => 26
  | .smem => 0
  | _ => 0

abbrev bufTy : (tb : Table) → Fin (tcTables nBuf tb) → BufTy
  | .hbm, ⟨0, _⟩ => ⟨S8x4096x4096, .bf16⟩
  | .hbm, ⟨1, _⟩ => ⟨S4096x16384, .f32⟩
  | .hbm, ⟨2, _⟩ => ⟨S3x12288, .f32⟩
  | .hbm, ⟨3, _⟩ => ⟨S12288, .f32⟩
  | .hbm, ⟨4, _⟩ => ⟨S32768x4096, .bf16⟩
  | .hbm, ⟨5, _⟩ => ⟨S4096x16384, .bf16⟩
  | .hbm, ⟨6, _⟩ => ⟨S1x12288, .f32⟩
  | .hbm, ⟨7, _⟩ => ⟨S32768x4096, .f32⟩
  | .hbm, ⟨8, _⟩ => ⟨S32768x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S3x256, .f32⟩
  | .local _ .vmem, ⟨14, _⟩ => ⟨S3x256, .f32⟩
  | .local _ .vmem, ⟨15, _⟩ => ⟨S3x256, .f32⟩
  | .local _ .vmem, ⟨16, _⟩ => ⟨S1x256, .f32⟩
  | .local _ .vmem, ⟨17, _⟩ => ⟨S1x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== HyenaRefIdeal.lean ====
abbrev S8x4096x4096 : Shape := ⟨3, ![8, 4096, 4096]⟩
abbrev S4096x16384 : Shape := ⟨2, ![4096, 16384]⟩
abbrev S3x12288 : Shape := ⟨2, ![3, 12288]⟩
abbrev S12288 : Shape := ⟨1, ![12288]⟩
abbrev S8x4096x16384 : Shape := ⟨3, ![8, 4096, 16384]⟩
abbrev S8x4096x12288 : Shape := ⟨3, ![8, 4096, 12288]⟩
abbrev S512x64x12288 : Shape := ⟨3, ![512, 64, 12288]⟩
abbrev S_ : Shape := ⟨0, ![]⟩
abbrev S512x66x12288 : Shape := ⟨3, ![512, 66, 12288]⟩
abbrev S1x12288 : Shape := ⟨2, ![1, 12288]⟩
abbrev S1x1x12288 : Shape := ⟨3, ![1, 1, 12288]⟩
abbrev S32768x4096 : Shape := ⟨2, ![32768, 4096]⟩

abbrev nBuf : Space → Nat
  | .hbm => 52
  | .vmem => 0
  | .smem => 0
  | _ => 0

abbrev bufTy : (tb : Table) → Fin (tcTables nBuf tb) → BufTy
  | .hbm, ⟨0, _⟩ => ⟨S8x4096x4096, .bf16⟩
  | .hbm, ⟨1, _⟩ => ⟨S4096x16384, .f32⟩
  | .hbm, ⟨2, _⟩ => ⟨S3x12288, .f32⟩
  | .hbm, ⟨3, _⟩ => ⟨S12288, .f32⟩
  | .hbm, ⟨4, _⟩ => ⟨S8x4096x4096, .f32⟩
  | .hbm, ⟨5, _⟩ => ⟨S8x4096x16384, .f32⟩
  | .hbm, ⟨6, _⟩ => ⟨S8x4096x12288, .f32⟩
  | .hbm, ⟨7, _⟩ => ⟨S512x64x12288, .f32⟩
  | .hbm, ⟨8, _⟩ => ⟨S_, .i32⟩
  | .hbm, ⟨9, _⟩ => ⟨S_, .f32⟩
  | .hbm, ⟨10, _⟩ => ⟨S512x66x12288, .f32⟩
  | .hbm, ⟨11, _⟩ => ⟨S512x64x12288, .f32⟩
  | .hbm, ⟨12, _⟩ => ⟨S1x12288, .f32⟩
  | .hbm, ⟨13, _⟩ => ⟨S12288, .f32⟩
  | .hbm, ⟨14, _⟩ => ⟨S1x1x12288, .f32⟩
  | .hbm, ⟨15, _⟩ => ⟨S512x64x12288, .f32⟩
  | .hbm, ⟨16, _⟩ => ⟨S512x64x12288, .f32⟩
  | .hbm, ⟨17, _⟩ => ⟨S512x64x12288, .f32⟩
  | .hbm, ⟨18, _⟩ => ⟨S1x12288, .f32⟩
  | .hbm, ⟨19, _⟩ => ⟨S12288, .f32⟩
  | .hbm, ⟨20, _⟩ => ⟨S1x1x12288, .f32⟩
  | .hbm, ⟨21, _⟩ => ⟨S512x64x12288, .f32⟩
  | .hbm, ⟨22, _⟩ => ⟨S512x64x12288, .f32⟩
  | .hbm, ⟨23, _⟩ => ⟨S512x64x12288, .f32⟩
  | .hbm, ⟨24, _⟩ => ⟨S512x64x12288, .f32⟩
  | .hbm, ⟨25, _⟩ => ⟨S1x12288, .f32⟩
  | .hbm, ⟨26, _⟩ => ⟨S12288, .f32⟩
  | .hbm, ⟨27, _⟩ => ⟨S1x1x12288, .f32⟩
  | .hbm, ⟨28, _⟩ => ⟨S512x64x12288, .f32⟩
  | .hbm, ⟨29, _⟩ => ⟨S512x64x12288, .f32⟩
  | .hbm, ⟨30, _⟩ => ⟨S512x64x12288, .f32⟩
  | .hbm, ⟨31, _⟩ => ⟨S8x4096x12288, .f32⟩
  | .hbm, ⟨32, _⟩ => ⟨S1x1x12288, .f32⟩
  | .hbm, ⟨33, _⟩ => ⟨S8x4096x12288, .f32⟩
  | .hbm, ⟨34, _⟩ => ⟨S8x4096x12288, .f32⟩
  | .hbm, ⟨35, _⟩ => ⟨S8x4096x4096, .f32⟩
  | .hbm, ⟨36, _⟩ => ⟨S8x4096x4096, .f32⟩
  | .hbm, ⟨37, _⟩ => ⟨S8x4096x4096, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S_, .f32⟩
  | .hbm, ⟨42, _⟩ => ⟨S8x4096x4096, .f32⟩
  | .hbm, ⟨43, _⟩ => ⟨S8x4096x4096, .f32⟩
  | .hbm, ⟨44, _⟩ => ⟨S_, .f32⟩
  | .hbm, ⟨45, _⟩ => ⟨S8x4096x4096, .f32⟩
  | .hbm, ⟨46, _⟩ => ⟨S8x4096x4096, .f32⟩
  | .hbm, ⟨47, _⟩ => ⟨S8x4096x4096, .f32⟩
  | .hbm, ⟨48, _⟩ => ⟨S8x4096x4096, .f32⟩
  | .hbm, ⟨49, _⟩ => ⟨S32768x4096, .f32⟩
  | .hbm, ⟨50, _⟩ => ⟨S8x4096x4096, .f32⟩
  | .hbm, ⟨51, _⟩ => ⟨S32768x4096, .f32⟩
  | _, _ => ⟨S8x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]
-- ==== GlaIn.lean ====
abbrev S8x4096x4096 : Shape := ⟨3, ![8, 4096, 4096]⟩
abbrev S1x4096x12288 : Shape := ⟨3, ![1, 4096, 12288]⟩
abbrev S32768x4096 : Shape := ⟨2, ![32768, 4096]⟩
abbrev S4096x12288 : Shape := ⟨2, ![4096, 12288]⟩
abbrev S32768x12288 : Shape := ⟨2, ![32768, 12288]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8x4096x4096, .bf16⟩
  | .hbm, ⟨1, _⟩ => ⟨S1x4096x12288, .f32⟩
  | .hbm, ⟨2, _⟩ => ⟨S32768x4096, .bf16⟩
  | .hbm, ⟨3, _⟩ => ⟨S4096x12288, .f32⟩
  | .hbm, ⟨4, _⟩ => ⟨S4096x12288, .bf16⟩
  | .hbm, ⟨5, _⟩ => ⟨S32768x12288, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8x4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GlaInRefIdeal.lean ====
abbrev S8x4096x4096 : Shape := ⟨3, ![8, 4096, 4096]⟩
abbrev S1x4096x12288 : Shape := ⟨3, ![1, 4096, 12288]⟩
abbrev S4096x12288 : Shape := ⟨2, ![4096, 12288]⟩
abbrev S8x4096x12288 : Shape := ⟨3, ![8, 4096, 12288]⟩
abbrev S32768x12288 : Shape := ⟨2, ![32768, 12288]⟩

abbrev nBuf : Space → Nat
  | .hbm => 6
  | .vmem => 0
  | .smem => 0
  | _ => 0

abbrev bufTy : (tb : Table) → Fin (tcTables nBuf tb) → BufTy
  | .hbm, ⟨0, _⟩ => ⟨S8x4096x4096, .bf16⟩
  | .hbm, ⟨1, _⟩ => ⟨S1x4096x12288, .f32⟩
  | .hbm, ⟨2, _⟩ => ⟨S8x4096x4096, .f32⟩
  | .hbm, ⟨3, _⟩ => ⟨S4096x12288, .f32⟩
  | .hbm, ⟨4, _⟩ => ⟨S8x4096x12288, .f32⟩
  | .hbm, ⟨5, _⟩ => ⟨S32768x12288, .f32⟩
  | _, _ => ⟨S8x4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S32768x4096 : Shape := ⟨2, ![32768, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .f32⟩
  | .hbm, ⟨2, _⟩ => ⟨S4096x4096, .bf16⟩
  | .hbm, ⟨3, _⟩ => ⟨S32768x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S32768x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutRefIdeal.lean ====
abbrev S32768x4096 : Shape := ⟨2, ![32768, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .f32⟩
  | .hbm, ⟨2, _⟩ => ⟨S32768x4096, .f32⟩
  | .hbm, ⟨3, _⟩ => ⟨S32768x4096, .f32⟩
  | .hbm, ⟨4, _⟩ => ⟨S32768x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== LnSample.lean ====
abbrev S8x4096x4096 : Shape := ⟨3, ![8, 4096, 4096]⟩
abbrev S32768x4096 : Shape := ⟨2, ![32768, 4096]⟩
abbrev S16x1x4096 : Shape := ⟨3, ![16, 1, 4096]⟩
abbrev S4096 : Shape := ⟨1, ![4096]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 10
  | .smem => 0
  | _ => 0

abbrev bufTy : (tb : Table) → Fin (tcTables nBuf tb) → BufTy
  | .hbm, ⟨0, _⟩ => ⟨S8x4096x4096, .f32⟩
  | .hbm, ⟨1, _⟩ => ⟨S32768x4096, .bf16⟩
  | .hbm, ⟨2, _⟩ => ⟨S16x1x4096, .f32⟩
  | .hbm, ⟨3, _⟩ => ⟨S4096, .f32⟩
  | .hbm, ⟨4, _⟩ => ⟨S4096, .f32⟩
  | .hbm, ⟨5, _⟩ => ⟨S8x4096x4096, .bf16⟩
  | .hbm, ⟨6, _⟩ => ⟨S1x4096, .f32⟩
  | .hbm, ⟨7, _⟩ => ⟨S1x4096, .f32⟩
  | .hbm, ⟨8, _⟩ => ⟨S8x4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .bf16⟩
  | .local _ .vmem, ⟨3, _⟩ => ⟨S1x256x4096, .bf16⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S1x4096, .f32⟩
  | .local _ .vmem, ⟨8, _⟩ => ⟨S1x256x4096, .f32⟩
  | .local _ .vmem, ⟨9, _⟩ => ⟨S1x256x4096, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli c1_i32 arg0
  let c1_i32_0 : BitVec 32 := 1#32
  let v1 : BitVec 32 := Scalar.addi c1_i32_0 v0
  let c0_i32 : BitVec 32 := 0#32
  let c0_i32_1 : BitVec 32 := 0#32
  let c0_i32_2 : BitVec 32 := 0#32
  ![v1.toNat, c0_i32.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LnSampleRefIdeal.lean ====
abbrev S8x4096x4096 : Shape := ⟨3, ![8, 4096, 4096]⟩
abbrev S32768x4096 : Shape := ⟨2, ![32768, 4096]⟩
abbrev S16x1x4096 : Shape := ⟨3, ![16, 1, 4096]⟩
abbrev S4096 : Shape := ⟨1, ![4096]⟩
abbrev S_ : Shape := ⟨0, ![]⟩
abbrev S8x1x4096 : Shape := ⟨3, ![8, 1, 4096]⟩
abbrev S8x4096 : Shape := ⟨2, ![8, 4096]⟩
abbrev S8x4096x1 : Shape := ⟨3, ![8, 4096, 1]⟩
abbrev S1x1x4096 : Shape := ⟨3, ![1, 1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S32768x4096, .bf16⟩
  | .hbm, ⟨2, _⟩ => ⟨S16x1x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S8x4096x4096, .f32⟩
  | .hbm, ⟨7, _⟩ => ⟨S8x4096x4096, .f32⟩
  | .hbm, ⟨8, _⟩ => ⟨S8x1x4096, .f32⟩
  | .hbm, ⟨9, _⟩ => ⟨S32768x4096, .f32⟩
  | .hbm, ⟨10, _⟩ => ⟨S8x4096x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x4096, .f32⟩
  | .hbm, ⟨21, _⟩ => ⟨S8x4096x4096, .f32⟩
  | .hbm, ⟨22, _⟩ => ⟨S8x4096x4096, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x4096, .f32⟩
  | .hbm, ⟨30, _⟩ => ⟨S8x4096x4096, .f32⟩
  | .hbm, ⟨31, _⟩ => ⟨S_, .f32⟩
  | .hbm, ⟨32, _⟩ => ⟨S8x4096x1, .f32⟩
  | .hbm, ⟨33, _⟩ => ⟨S8x4096x1, .f32⟩
  | .hbm, ⟨34, _⟩ => ⟨S8x4096x1, .f32⟩
  | .hbm, ⟨35, _⟩ => ⟨S8x4096x4096, .f32⟩
  | .hbm, ⟨36, _⟩ => ⟨S8x4096x4096, .f32⟩
  | .hbm, ⟨37, _⟩ => ⟨S1x1x4096, .f32⟩
  | .hbm, ⟨38, _⟩ => ⟨S8x4096x4096, .f32⟩
  | .hbm, ⟨39, _⟩ => ⟨S8x4096x4096, .f32⟩
  | .hbm, ⟨40, _⟩ => ⟨S1x1x4096, .f32⟩
  | .hbm, ⟨41, _⟩ => ⟨S8x4096x4096, .f32⟩
  | .hbm, ⟨42, _⟩ => ⟨S8x4096x4096, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== LnPrompt.lean ====
abbrev S32x256x4096 : Shape := ⟨3, ![32, 256, 4096]⟩
abbrev S8192x4096 : Shape := ⟨2, ![8192, 4096]⟩
abbrev S16x1x4096 : Shape := ⟨3, ![16, 1, 4096]⟩
abbrev S4096 : Shape := ⟨1, ![4096]⟩
abbrev S1x4096 : Shape := ⟨2, ![1, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 9
  | .vmem => 9
  | .smem => 0
  | _ => 0

abbrev bufTy : (tb : Table) → Fin (tcTables nBuf tb) → BufTy
  | .hbm, ⟨0, _⟩ => ⟨S32x256x4096, .f32⟩
  | .hbm, ⟨1, _⟩ => ⟨S8192x4096, .bf16⟩
  | .hbm, ⟨2, _⟩ => ⟨S16x1x4096, .f32⟩
  | .hbm, ⟨3, _⟩ => ⟨S4096, .f32⟩
  | .hbm, ⟨4, _⟩ => ⟨S4096, .f32⟩
  | .hbm, ⟨5, _⟩ => ⟨S32x256x4096, .bf16⟩
  | .hbm, ⟨6, _⟩ => ⟨S1x4096, .f32⟩
  | .hbm, ⟨7, _⟩ => ⟨S1x4096, .f32⟩
  | .hbm, ⟨8, _⟩ => ⟨S32x256x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x256x4096, .bf16⟩
  | .local _ .vmem, ⟨3, _⟩ => ⟨S1x256x4096, .bf16⟩
  | .local _ .vmem, ⟨4, _⟩ => ⟨S1x1x4096, .f32⟩
  | .local _ .vmem, ⟨5, _⟩ => ⟨S1x4096, .f32⟩
  | .local _ .vmem, ⟨6, _⟩ => ⟨S1x4096, .f32⟩
  | .local _ .vmem, ⟨7, _⟩ => ⟨S1x256x4096, .f32⟩
  | .local _ .vmem, ⟨8, _⟩ => ⟨S1x256x4096, .f32⟩
  | _, _ => ⟨S32x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LnPromptRefIdeal.lean ====
abbrev S32x256x4096 : Shape := ⟨3, ![32, 256, 4096]⟩
abbrev S8192x4096 : Shape := ⟨2, ![8192, 4096]⟩
abbrev S16x1x4096 : Shape := ⟨3, ![16, 1, 4096]⟩
abbrev S4096 : Shape := ⟨1, ![4096]⟩
abbrev S_ : Shape := ⟨0, ![]⟩
abbrev S1x1x4096 : Shape := ⟨3, ![1, 1, 4096]⟩
abbrev S1x4096 : Shape := ⟨2, ![1, 4096]⟩
abbrev S32x256 : Shape := ⟨2, ![32, 256]⟩
abbrev S32x256x1 : Shape := ⟨3, ![32, 256, 1]⟩

abbrev nBuf : Space → Nat
  | .hbm => 45
  | .vmem => 0
  | .smem => 0
  | _ => 0

abbrev bufTy : (tb : Table) → Fin (tcTables nBuf tb) → BufTy
  | .hbm, ⟨0, _⟩ => ⟨S32x256x4096, .f32⟩
  | .hbm, ⟨1, _⟩ => ⟨S8192x4096, .bf16⟩
  | .hbm, ⟨2, _⟩ => ⟨S16x1x4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S32x256x4096, .f32⟩
  | .hbm, ⟨7, _⟩ => ⟨S32x256x4096, .f32⟩
  | .hbm, ⟨8, _⟩ => ⟨S1x1x4096, .f32⟩
  | .hbm, ⟨9, _⟩ => ⟨S1x4096, .f32⟩
  | .hbm, ⟨10, _⟩ => ⟨S8192x4096, .f32⟩
  | .hbm, ⟨11, _⟩ => ⟨S32x256x4096, .f32⟩
  | .hbm, ⟨12, _⟩ => ⟨S1x1x4096, .f32⟩
  | .hbm, ⟨13, _⟩ => ⟨S32x256x4096, .f32⟩
  | .hbm, ⟨14, _⟩ => ⟨S32x256x4096, .f32⟩
  | .hbm, ⟨15, _⟩ => ⟨S32x256x4096, .f32⟩
  | .hbm, ⟨16, _⟩ => ⟨S_, .f32⟩
  | .hbm, ⟨17, _⟩ => ⟨S32x256, .f32⟩
  | .hbm, ⟨18, _⟩ => ⟨S32x256x1, .f32⟩
  | .hbm, ⟨19, _⟩ => ⟨S_, .f32⟩
  | .hbm, ⟨20, _⟩ => ⟨S32x256x1, .f32⟩
  | .hbm, ⟨21, _⟩ => ⟨S32x256x1, .f32⟩
  | .hbm, ⟨22, _⟩ => ⟨S32x256x4096, .f32⟩
  | .hbm, ⟨23, _⟩ => ⟨S32x256x4096, .f32⟩
  | .hbm, ⟨24, _⟩ => ⟨S32x256x4096, .f32⟩
  | .hbm, ⟨25, _⟩ => ⟨S_, .f32⟩
  | .hbm, ⟨26, _⟩ => ⟨S32x256, .f32⟩
  | .hbm, ⟨27, _⟩ => ⟨S32x256x1, .f32⟩
  | .hbm, ⟨28, _⟩ => ⟨S_, .f32⟩
  | .hbm, ⟨29, _⟩ => ⟨S32x256x1, .f32⟩
  | .hbm, ⟨30, _⟩ => ⟨S32x256x1, .f32⟩
  | .hbm, ⟨31, _⟩ => ⟨S32x256x4096, .f32⟩
  | .hbm, ⟨32, _⟩ => ⟨S32x256x4096, .f32⟩
  | .hbm, ⟨33, _⟩ => ⟨S_, .f32⟩
  | .hbm, ⟨34, _⟩ => ⟨S32x256x1, .f32⟩
  | .hbm, ⟨35, _⟩ => ⟨S32x256x1, .f32⟩
  | .hbm, ⟨36, _⟩ => ⟨S32x256x1, .f32⟩
  | .hbm, ⟨37, _⟩ => ⟨S32x256x4096, .f32⟩
  | .hbm, ⟨38, _⟩ => ⟨S32x256x4096, .f32⟩
  | .hbm, ⟨39, _⟩ => ⟨S1x1x4096, .f32⟩
  | .hbm, ⟨40, _⟩ => ⟨S32x256x4096, .f32⟩
  | .hbm, ⟨41, _⟩ => ⟨S32x256x4096, .f32⟩
  | .hbm, ⟨42, _⟩ => ⟨S1x1x4096, .f32⟩
  | .hbm, ⟨43, _⟩ => ⟨S32x256x4096, .f32⟩
  | .hbm, ⟨44, _⟩ => ⟨S32x256x4096, .f32⟩
  | _, _ => ⟨S32x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== GlaState.lean ====
abbrev S8192x12288 : Shape := ⟨2, ![8192, 12288]⟩
abbrev S8192x128 : Shape := ⟨2, ![8192, 128]⟩
abbrev S1x2x16x2048 : Shape := ⟨4, ![1, 2, 16, 2048]⟩
abbrev S1x2x2048 : Shape := ⟨3, ![1, 2, 2048]⟩
abbrev S2x16x2048 : Shape := ⟨3, ![2, 16, 2048]⟩
abbrev S_ : Shape := ⟨0, ![]⟩
abbrev S2x128x2048 : Shape := ⟨3, ![2, 128, 2048]⟩
abbrev S1x16x2048 : Shape := ⟨3, ![1, 16, 2048]⟩
abbrev S16x2048 : Shape := ⟨2, ![16, 2048]⟩
abbrev S1 : Shape := ⟨1, ![1]⟩
abbrev S2 : Shape := ⟨1, ![2]⟩
abbrev S2x2048 : Shape := ⟨2, ![2, 2048]⟩
abbrev S2x1x2048 : Shape := ⟨3, ![2, 1, 2048]⟩
abbrev S256x256 : Shape := ⟨2, ![256, 256]⟩
abbrev S256x768 : Shape := ⟨2, ![256, 768]⟩
abbrev S8192x4096 : Shape := ⟨2, ![8192, 4096]⟩
abbrev S32x2x4x512x1024 : Shape := ⟨5, ![32, 2, 4, 512, 1024]⟩
abbrev S256x1024 : Shape := ⟨2, ![256, 1024]⟩
abbrev S256x2048 : Shape := ⟨2, ![256, 2048]⟩
abbrev S256x128 : Shape := ⟨2, ![256, 128]⟩
abbrev S1x128x1024 : Shape := ⟨3, ![1, 128, 1024]⟩
abbrev S1x1x1024 : Shape := ⟨3, ![1, 1, 1024]⟩
abbrev S1x1x2x512x1024 : Shape := ⟨5, ![1, 1, 2, 512, 1024]⟩
abbrev S2x1024x512 : Shape := ⟨3, ![2, 1024, 512]⟩
abbrev S1024x512 : Shape := ⟨2, ![1024, 512]⟩
abbrev S1x1024x512 : Shape := ⟨3, ![1, 1024, 512]⟩
abbrev S128x1024 : Shape := ⟨2, ![128, 1024]⟩
abbrev S1x1024 : Shape := ⟨2, ![1, 1024]⟩
abbrev S768x1024 : Shape := ⟨2, ![768, 1024]⟩
abbrev S256x512 : Shape := ⟨2, ![256, 512]⟩
abbrev S1x512 : Shape := ⟨2, ![1, 512]⟩
abbrev S64x1024 : Shape := ⟨2, ![64, 1024]⟩
abbrev S32x1024 : Shape := ⟨2, ![32, 1024]⟩
abbrev S16x1024 : Shape := ⟨2, ![16, 1024]⟩
abbrev S8x1024 : Shape := ⟨2, ![8, 1024]⟩
abbrev S256 : Shape := ⟨1, ![256]⟩
abbrev S256x1 : Shape := ⟨2, ![256, 1]⟩
abbrev S512x1024 : Shape := ⟨2, ![512, 1024]⟩
abbrev S1x1x1x512x1024 : Shape := ⟨5, ![1, 1, 1, 512, 1024]⟩

abbrev nBuf : Space → Nat
  | .hbm => 92
  | .vmem => 20
  | .smem => 0
  | _ => 0

abbrev bufTy : (tb : Table) → Fin (tcTables nBuf tb) → BufTy
  | .hbm, ⟨0, _⟩ => ⟨S8192x12288, .f32⟩
  | .hbm, ⟨1, _⟩ => ⟨S8192x128, .f32⟩
  | .hbm, ⟨2, _⟩ => ⟨S1x2x16x2048, .f32⟩
  | .hbm, ⟨3, _⟩ => ⟨S1x2x2048, .f32⟩
  | .hbm, ⟨4, _⟩ => ⟨S2x16x2048, .f32⟩
  | .hbm, ⟨5, _⟩ => ⟨S_, .f32⟩
  | .hbm, ⟨6, _⟩ => ⟨S2x128x2048, .f32⟩
  | .hbm, ⟨7, _⟩ => ⟨S1x16x2048, .f32⟩
  | .hbm, ⟨8, _⟩ => ⟨S16x2048, .f32⟩
  | .hbm, ⟨9, _⟩ => ⟨S_, .i32⟩
  | .hbm, ⟨10, _⟩ => ⟨S1, .i32⟩
  | .hbm, ⟨11, _⟩ => ⟨S_, .i32⟩
  | .hbm, ⟨12, _⟩ => ⟨S1, .i32⟩
  | .hbm, ⟨13, _⟩ => ⟨S2, .i32⟩
  | .hbm, ⟨14, _⟩ => ⟨S2x128x2048, .f32⟩
  | .hbm, ⟨15, _⟩ => ⟨S1x16x2048, .f32⟩
  | .hbm, ⟨16, _⟩ => ⟨S16x2048, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S2x128x2048, .f32⟩
  | .hbm, ⟨23, _⟩ => ⟨S2x128x2048, .bf16⟩
  | .hbm, ⟨24, _⟩ => ⟨S2x2048, .f32⟩
  | .hbm, ⟨25, _⟩ => ⟨S2x1x2048, .f32⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S_, .i32⟩
  | .hbm, ⟨30, _⟩ => ⟨S256x256, .i32⟩
  | .hbm, ⟨31, _⟩ => ⟨S_, .i32⟩
  | .hbm, ⟨32, _⟩ => ⟨S256x256, .i32⟩
  | .hbm, ⟨33, _⟩ => ⟨S256x256, .i1⟩
  | .hbm, ⟨34, _⟩ => ⟨S_, .i32⟩
  | .hbm, ⟨35, _⟩ => ⟨S_, .i32⟩
  | .hbm, ⟨36, _⟩ => ⟨S256x256, .i32⟩
  | .hbm, ⟨37, _⟩ => ⟨S256x256, .i32⟩
  | .hbm, ⟨38, _⟩ => ⟨S_, .i32⟩
  | .hbm, ⟨39, _⟩ => ⟨S256x256, .i32⟩
  | .hbm, ⟨40, _⟩ => ⟨S256x256, .i1⟩
  | .hbm, ⟨41, _⟩ => ⟨S_, .i32⟩
  | .hbm, ⟨42, _⟩ => ⟨S_, .i32⟩
  | .hbm, ⟨43, _⟩ => ⟨S256x256, .i32⟩
  | .hbm, ⟨44, _⟩ => ⟨S256x256, .i32⟩
  | .hbm, ⟨45, _⟩ => ⟨S_, .i32⟩
  | .hbm, ⟨46, _⟩ => ⟨S256x256, .i32⟩
  | .hbm, ⟨47, _⟩ => ⟨S256x256, .i1⟩
  | .hbm, ⟨48, _⟩ => ⟨S_, .i32⟩
  | .hbm, ⟨49, _⟩ => ⟨S_, .i32⟩
  | .hbm, ⟨50, _⟩ => ⟨S256x256, .i32⟩
  | .hbm, ⟨51, _⟩ => ⟨S256x256, .i32⟩
  | .hbm, ⟨52, _⟩ => ⟨S_, .i32⟩
  | .hbm, ⟨53, _⟩ => ⟨S256x256, .i32⟩
  | .hbm, ⟨54, _⟩ => ⟨S256x256, .i1⟩
  | .hbm, ⟨55, _⟩ => ⟨S_, .i32⟩
  | .hbm, ⟨56, _⟩ => ⟨S_, .i32⟩
  | .hbm, ⟨57, _⟩ => ⟨S256x256, .i32⟩
  | .hbm, ⟨58, _⟩ => ⟨S256x256, .i32⟩
  | .hbm, ⟨59, _⟩ => ⟨S_, .i32⟩
  | .hbm, ⟨60, _⟩ => ⟨S256x256, .i32⟩
  | .hbm, ⟨61, _⟩ => ⟨S256x256, .i1⟩
  | .hbm, ⟨62, _⟩ => ⟨S_, .i32⟩
  | .hbm, ⟨63, _⟩ => ⟨S_, .i32⟩
  | .hbm, ⟨64, _⟩ => ⟨S256x256, .i32⟩
  | .hbm, ⟨65, _⟩ => ⟨S256x256, .i32⟩
  | .hbm, ⟨66, _⟩ => ⟨S_, .i32⟩
  | .hbm, ⟨67, _⟩ => ⟨S256x256, .i32⟩
  | .hbm, ⟨68, _⟩ => ⟨S256x256, .i1⟩
  | .hbm, ⟨69, _⟩ => ⟨S_, .i32⟩
  | .hbm, ⟨70, _⟩ => ⟨S_, .i32⟩
  | .hbm, ⟨71, _⟩ => ⟨S256x256, .i32⟩
  | .hbm, ⟨72, _⟩ => ⟨S256x256, .i32⟩
  | .hbm, ⟨73, _⟩ => ⟨S256x256, .i1⟩
  | .hbm, ⟨74, _⟩ => ⟨S_, .i32⟩
  | .hbm, ⟨75, _⟩ => ⟨S_, .i32⟩
  | .hbm, ⟨76, _⟩ => ⟨S256x256, .i32⟩
  | .hbm, ⟨77, _⟩ => ⟨S256x256, .i32⟩
  | .hbm, ⟨78, _⟩ => ⟨S256x768, .i32⟩
  | .hbm, ⟨79, _⟩ => ⟨S256x768, .i32⟩
  | .hbm, ⟨80, _⟩ => ⟨S_, .i32⟩
  | .hbm, ⟨81, _⟩ => ⟨S256x768, .i32⟩
  | .hbm, ⟨82, _⟩ => ⟨S256x768, .i32⟩
  | .hbm, ⟨83, _⟩ => ⟨S256x768, .i1⟩
  | .hbm, ⟨84, _⟩ => ⟨S_, .f32⟩
  | .hbm, ⟨85, _⟩ => ⟨S_, .f32⟩
  | .hbm, ⟨86, _⟩ => ⟨S256x768, .f32⟩
  | .hbm, ⟨87, _⟩ => ⟨S256x768, .f32⟩
  | .hbm, ⟨88, _⟩ => ⟨S256x768, .f32⟩
  | .hbm, ⟨89, _⟩ => ⟨S256x768, .bf16⟩
  | .hbm, ⟨90, _⟩ => ⟨S8192x4096, .f32⟩
  | .hbm, ⟨91, _⟩ => ⟨S32x2x4x512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x128, .f32⟩
  | .local _ .vmem, ⟨7, _⟩ => ⟨S256x128, .f32⟩
  | .local _ .vmem, ⟨8, _⟩ => ⟨S1x128x1024, .bf16⟩
  | .local _ .vmem, ⟨9, _⟩ => ⟨S1x128x1024, .bf16⟩
  | .local _ .vmem, ⟨10, _⟩ => ⟨S1x1x1024, .f32⟩
  | .local _ .vmem, ⟨11, _⟩ => ⟨S1x1x1024, .f32⟩
  | .local _ .vmem, ⟨12, _⟩ => ⟨S256x256, .i32⟩
  | .local _ .vmem, ⟨13, _⟩ => ⟨S256x768, .bf16⟩
  | .local _ .vmem, ⟨14, _⟩ => ⟨S256x2048, .f32⟩
  | .local _ .vmem, ⟨15, _⟩ => ⟨S256x2048, .f32⟩
  | .local _ .vmem, ⟨16, _⟩ => ⟨S1x1x2x512x1024, .f32⟩
  | .local _ .vmem, ⟨17, _⟩ => ⟨S1x1x2x512x1024, .f32⟩
  | .local _ .vmem, ⟨18, _⟩ => ⟨S2x1024x512, .f32⟩
  | .local _ .vmem, ⟨19, _⟩ => ⟨S256x1024, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_call0_v0 : Ref sig .tc := ⟨.hbm, 35, rfl⟩
abbrev main_call0_v1 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_call1_v0 : Ref sig .tc := ⟨.hbm, 42, rfl⟩
abbrev main_call1_v1 : Ref sig .tc := ⟨.hbm, 43, rfl⟩
abbrev main_v26 : Ref sig .tc := ⟨.hbm, 44, rfl⟩
abbrev main_c_8 : Ref sig .tc := ⟨.hbm, 45, rfl⟩
abbrev main_v27 : Ref sig .tc := ⟨.hbm, 46, rfl⟩
abbrev main_v28 : Ref sig .tc := ⟨.hbm, 47, rfl⟩
abbrev main_c_9 : Ref sig .tc := ⟨.hbm, 48, rfl⟩
abbrev main_call2_v0 : Ref sig .tc := ⟨.hbm, 49, rfl⟩
abbrev main_call2_v1 : Ref sig .tc := ⟨.hbm, 50, rfl⟩
abbrev main_v29 : Ref sig .tc := ⟨.hbm, 51, rfl⟩
abbrev main_c_10 : Ref sig .tc := ⟨.hbm, 52, rfl⟩
abbrev main_v30 : Ref sig .tc := ⟨.hbm, 53, rfl⟩
abbrev main_v31 : Ref sig .tc := ⟨.hbm, 54, rfl⟩
abbrev main_c_11 : Ref sig .tc := ⟨.hbm, 55, rfl⟩
abbrev main_call3_v0 : Ref sig .tc := ⟨.hbm, 56, rfl⟩
abbrev main_call3_v1 : Ref sig .tc := ⟨.hbm, 57, rfl⟩
abbrev main_v32 : Ref sig .tc := ⟨.hbm, 58, rfl⟩
abbrev main_c_12 : Ref sig .tc := ⟨.hbm, 59, rfl⟩
abbrev main_v33 : Ref sig .tc := ⟨.hbm, 60, rfl⟩
abbrev main_v34 : Ref sig .tc := ⟨.hbm, 61, rfl⟩
abbrev main_c_13 : Ref sig .tc := ⟨.hbm, 62, rfl⟩
abbrev main_call4_v0 : Ref sig .tc := ⟨.hbm, 63, rfl⟩
abbrev main_call4_v1 : Ref sig .tc := ⟨.hbm, 64, rfl⟩
abbrev main_v35 : Ref sig .tc := ⟨.hbm, 65, rfl⟩
abbrev main_c_14 : Ref sig .tc := ⟨.hbm, 66, rfl⟩
abbrev main_v36 : Ref sig .tc := ⟨.hbm, 67, rfl⟩
abbrev main_v37 : Ref sig .tc := ⟨.hbm, 68, rfl⟩
abbrev main_c_15 : Ref sig .tc := ⟨.hbm, 69, rfl⟩
abbrev main_call5_v0 : Ref sig .tc := ⟨.hbm, 70, rfl⟩
abbrev main_call5_v1 : Ref sig .tc := ⟨.hbm, 71, rfl⟩
abbrev main_v38 : Ref sig .tc := ⟨.hbm, 72, rfl⟩
abbrev main_v39 : Ref sig .tc := ⟨.hbm, 73, rfl⟩
abbrev main_c_16 : Ref sig .tc := ⟨.hbm, 74, rfl⟩
abbrev main_call6_v0 : Ref sig .tc := ⟨.hbm, 75, rfl⟩
abbrev main_call6_v1 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_c_17 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_18 : Ref sig .tc := ⟨.hbm, 84, rfl⟩
abbrev main_cst_19 : Ref sig .tc := ⟨.hbm, 85, rfl⟩
abbrev main_call7_v0 : Ref sig .tc := ⟨.hbm, 86, rfl⟩
abbrev main_call7_v1 : Ref sig .tc := ⟨.hbm, 87, rfl⟩
abbrev main_v46 : Ref sig .tc := ⟨.hbm, 88, rfl⟩
abbrev main_v47 : Ref sig .tc := ⟨.hbm, 89, rfl⟩
abbrev main_v48_0 : Ref sig .tc := ⟨.hbm, 90, rfl⟩
abbrev main_v48_1 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![32, 2, 1], ![false, false, false]⟩

def k0_cond2 (i : grid0.Coords) : BitVec 1 :=
  let arg2 : BitVec 32 := BitVec.ofNat 32 (i 2).val
  let c0_i32_174 : BitVec 32 := 0#32
  let v540 : BitVec 1 := Scalar.cmpi .eq arg2 c0_i32_174
  let v541 : BitVec 32 := Scalar.extui v540
  let c0_i32_175 : BitVec 32 := 0#32
  let v542 : BitVec 1 := Scalar.cmpi .ne v541 c0_i32_175
  v542

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S256x256 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S256x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x2x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== GlaStateIdeal.lean ====
variable {F : FTy → Type} [FloatOps F] [Named F]
def κ : String → Option EReal := fun
  | "log2e_tau" => some (((16 * (Real.log 2))⁻¹ : ℝ) : EReal)
  | _ => none
-- ==== GlaStateRefIdeal.lean ====
abbrev S8192x12288 : Shape := ⟨2, ![8192, 12288]⟩
abbrev S8192x128 : Shape := ⟨2, ![8192, 128]⟩
abbrev S1x2x16x2048 : Shape := ⟨4, ![1, 2, 16, 2048]⟩
abbrev S1x2x2048 : Shape := ⟨3, ![1, 2, 2048]⟩
abbrev S8192x2048 : Shape := ⟨2, ![8192, 2048]⟩
abbrev S32x256x4x512 : Shape := ⟨4, ![32, 256, 4, 512]⟩
abbrev S32x4x256x512 : Shape := ⟨4, ![32, 4, 256, 512]⟩
abbrev S8192x4096 : Shape := ⟨2, ![8192, 4096]⟩
abbrev S32x256x4x1024 : Shape := ⟨4, ![32, 256, 4, 1024]⟩
abbrev S32x4x256x1024 : Shape := ⟨4, ![32, 4, 256, 1024]⟩
abbrev S8192x16 : Shape := ⟨2, ![8192, 16]⟩
abbrev S1x1x16x2048 : Shape := ⟨4, ![1, 1, 16, 2048]⟩
abbrev S16x2048 : Shape := ⟨2, ![16, 2048]⟩
abbrev S1x1x2048 : Shape := ⟨3, ![1, 1, 2048]⟩
abbrev S2048 : Shape := ⟨1, ![2048]⟩
abbrev S1x2048 : Shape := ⟨2, ![1, 2048]⟩
abbrev S_ : Shape := ⟨0, ![]⟩
abbrev S32x4x512x1024 : Shape := ⟨4, ![32, 4, 512, 1024]⟩
abbrev S256x32x4x512 : Shape := ⟨4, ![256, 32, 4, 512]⟩
abbrev S256x32x4x1024 : Shape := ⟨4, ![256, 32, 4, 1024]⟩
abbrev S1x32x4x512 : Shape := ⟨4, ![1, 32, 4, 512]⟩
abbrev S32x4x512 : Shape := ⟨3, ![32, 4, 512]⟩
abbrev S1x32x4x1024 : Shape := ⟨4, ![1, 32, 4, 1024]⟩
abbrev S32x4x1024 : Shape := ⟨3, ![32, 4, 1024]⟩
abbrev S32x4x512x1 : Shape := ⟨4, ![32, 4, 512, 1]⟩
abbrev S32x4x1x1024 : Shape := ⟨4, ![32, 4, 1, 1024]⟩
abbrev S32x1x4x512x1024 : Shape := ⟨5, ![32, 1, 4, 512, 1024]⟩
abbrev S32x2x4x512x1024 : Shape := ⟨5, ![32, 2, 4, 512, 1024]⟩

abbrev nBuf : Space → Nat
  | .hbm => 73
  | .vmem => 0
  | .smem => 0
  | _ => 0

abbrev bufTy : (tb : Table) → Fin (tcTables nBuf tb) → BufTy
  | .hbm, ⟨0, _⟩ => ⟨S8192x12288, .f32⟩
  | .hbm, ⟨1, _⟩ => ⟨S8192x128, .f32⟩
  | .hbm, ⟨2, _⟩ => ⟨S1x2x16x2048, .f32⟩
  | .hbm, ⟨3, _⟩ => ⟨S1x2x2048, .f32⟩
  | .hbm, ⟨4, _⟩ => ⟨S8192x2048, .f32⟩
  | .hbm, ⟨5, _⟩ => ⟨S32x256x4x512, .f32⟩
  | .hbm, ⟨6, _⟩ => ⟨S32x4x256x512, .f32⟩
  | .hbm, ⟨7, _⟩ => ⟨S8192x4096, .f32⟩
  | .hbm, ⟨8, _⟩ => ⟨S32x256x4x1024, .f32⟩
  | .hbm, ⟨9, _⟩ => ⟨S32x4x256x1024, .f32⟩
  | .hbm, ⟨10, _⟩ => ⟨S8192x16, .f32⟩
  | .hbm, ⟨11, _⟩ => ⟨S1x1x16x2048, .f32⟩
  | .hbm, ⟨12, _⟩ => ⟨S16x2048, .f32⟩
  | .hbm, ⟨13, _⟩ => ⟨S8192x2048, .f32⟩
  | .hbm, ⟨14, _⟩ => ⟨S1x1x2048, .f32⟩
  | .hbm, ⟨15, _⟩ => ⟨S2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S32x256x4x512, .f32⟩
  | .hbm, ⟨27, _⟩ => ⟨S32x4x256x512, .f32⟩
  | .hbm, ⟨28, _⟩ => ⟨S_, .f32⟩
  | .hbm, ⟨29, _⟩ => ⟨S32x4x512x1024, .f32⟩
  | .hbm, ⟨30, _⟩ => ⟨S256x32x4x512, .f32⟩
  | .hbm, ⟨31, _⟩ => ⟨S256x32x4x1024, .f32⟩
  | .hbm, ⟨32, _⟩ => ⟨S256x32x4x512, .f32⟩
  | .hbm, ⟨33, _⟩ => ⟨S_, .i32⟩
  | .hbm, ⟨34, _⟩ => ⟨S256x32x4x512, .f32⟩
  | .hbm, ⟨35, _⟩ => ⟨S256x32x4x1024, .f32⟩
  | .hbm, ⟨36, _⟩ => ⟨S256x32x4x512, .f32⟩
  | .hbm, ⟨37, _⟩ => ⟨S_, .i32⟩
  | .hbm, ⟨38, _⟩ => ⟨S32x4x512x1024, .f32⟩
  | .hbm, ⟨39, _⟩ => ⟨S_, .i32⟩
  | .hbm, ⟨40, _⟩ => ⟨S_, .i1⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S1x32x4x512, .f32⟩
  | .hbm, ⟨45, _⟩ => ⟨S32x4x512, .f32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x32x4x1024, .f32⟩
  | .hbm, ⟨50, _⟩ => ⟨S32x4x1024, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S1x32x4x512, .f32⟩
  | .hbm, ⟨55, _⟩ => ⟨S32x4x512, .f32⟩
  | .hbm, ⟨56, _⟩ => ⟨S32x4x512, .f32⟩
  | .hbm, ⟨57, _⟩ => ⟨S32x4x512x1, .f32⟩
  | .hbm, ⟨58, _⟩ => ⟨S32x4x512x1024, .f32⟩
  | .hbm, ⟨59, _⟩ => ⟨S32x4x512x1024, .f32⟩
  | .hbm, ⟨60, _⟩ => ⟨S32x4x512x1, .f32⟩
  | .hbm, ⟨61, _⟩ => ⟨S32x4x1x1024, .f32⟩
  | .hbm, ⟨62, _⟩ => ⟨S32x4x512x1024, .f32⟩
  | .hbm, ⟨63, _⟩ => ⟨S32x4x512x1024, .f32⟩
  | .hbm, ⟨64, _⟩ => ⟨S32x4x512x1024, .f32⟩
  | .hbm, ⟨65, _⟩ => ⟨S32x4x512x1024, .f32⟩
  | .hbm, ⟨66, _⟩ => ⟨S_, .i32⟩
  | .hbm, ⟨67, _⟩ => ⟨S_, .i32⟩
  | .hbm, ⟨68, _⟩ => ⟨S_, .f32⟩
  | .hbm, ⟨69, _⟩ => ⟨S32x4x512x1024, .f32⟩
  | .hbm, ⟨70, _⟩ => ⟨S32x1x4x512x1024, .f32⟩
  | .hbm, ⟨71, _⟩ => ⟨S32x1x4x512x1024, .f32⟩
  | .hbm, ⟨72, _⟩ => ⟨S32x2x4x512x1024, .f32⟩
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c : Ref sig .tc := ⟨.hbm, 33, rfl⟩
abbrev main_v27_0 : Ref sig .tc := ⟨.hbm, 34, rfl⟩
abbrev main_v27_1 : Ref sig .tc := ⟨.hbm, 35, rfl⟩
abbrev main_v27_2 : Ref sig .tc := ⟨.hbm, 36, rfl⟩
abbrev main_v27_3 : Ref sig .tc := ⟨.hbm, 37, rfl⟩
abbrev main_v27_4 : Ref sig .tc := ⟨.hbm, 38, rfl⟩
abbrev main_while0c_c_6 : Ref sig .tc := ⟨.hbm, 39, rfl⟩
abbrev main_while0c_v32 : Ref sig .tc := ⟨.hbm, 40, rfl⟩
abbrev main_while0b_call0_c : Ref sig .tc := ⟨.hbm, 41, rfl⟩
abbrev main_while0b_call0_c_0 : Ref sig .tc := ⟨.hbm, 42, rfl⟩
abbrev main_while0b_call0_c_1 : Ref sig .tc := ⟨.hbm, 43, rfl⟩
abbrev main_while0b_call0_v0 : Ref sig .tc := ⟨.hbm, 44, rfl⟩
abbrev main_while0b_v32 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_call1_c_1 : Ref sig .tc := ⟨.hbm, 48, rfl⟩
abbrev main_while0b_call1_v0 : Ref sig .tc := ⟨.hbm, 49, rfl⟩
abbrev main_while0b_v33 : Ref sig .tc := ⟨.hbm, 50, rfl⟩
abbrev main_while0b_call2_c : Ref sig .tc := ⟨.hbm, 51, rfl⟩
abbrev main_while0b_call2_c_0 : Ref sig .tc := ⟨.hbm, 52, rfl⟩
abbrev main_while0b_call2_c_1 : Ref sig .tc := ⟨.hbm, 53, rfl⟩
abbrev main_while0b_call2_v0 : Ref sig .tc := ⟨.hbm, 54, rfl⟩
abbrev main_while0b_v34 : Ref sig .tc := ⟨.hbm, 55, rfl⟩
abbrev main_while0b_v35 : Ref sig .tc := ⟨.hbm, 56, rfl⟩
abbrev main_while0b_v36 : Ref sig .tc := ⟨.hbm, 57, rfl⟩
abbrev main_while0b_v37 : Ref sig .tc := ⟨.hbm, 58, rfl⟩
abbrev main_while0b_v38 : Ref sig .tc := ⟨.hbm, 59, rfl⟩
abbrev main_while0b_v39 : Ref sig .tc := ⟨.hbm, 60, rfl⟩
abbrev main_while0b_v40 : Ref sig .tc := ⟨.hbm, 61, rfl⟩
abbrev main_while0b_v41 : Ref sig .tc := ⟨.hbm, 62, rfl⟩
abbrev main_while0b_v42 : Ref sig .tc := ⟨.hbm, 63, rfl⟩
abbrev main_while0b_v43 : Ref sig .tc := ⟨.hbm, 64, rfl⟩
abbrev main_while0b_v44 : Ref sig .tc := ⟨.hbm, 65, rfl⟩
abbrev main_while0b_c_6 : Ref sig .tc := ⟨.hbm, 66, rfl⟩
abbrev main_while0b_v45 : Ref sig .tc := ⟨.hbm, 67, rfl⟩
abbrev main_cst_1 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩

abbrev nD : Nat := 1
abbrev τ : Topo := Topo.v7x

variable {F : FTy → Type} [FloatOps F]

abbrev main_while0_count : Scf.Loop 32 := ⟨0#32, 256#32, 1#32⟩
-- ==== Proof.Sconv.lean ====
module

public import proofs.«01_k».proof.Defs
public import proofs.«01_k».proof.Proof.Gen.SconvIdeal.Value
public import proofs.«01_k».proof.Proof.Gen.SconvRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.SconvIdeal.Hand

open Cert.SconvIdeal Cert.SconvIdeal.Gen

variable (m : (ℓ : Loc nD τ sig) → Buf (Elt Ideal) ℓ) (ρ : Dev nD → PrngReg)

/-- The block of each window at a point: the grid runs over 16 column blocks, and over 32 row blocks within each. -/
theorem idx (t : Fin cfg0.N) : win0_0.index t = ![t.val % 32, 0] ∧ win0_1.index t = ![0, t.val / 32]
    ∧ win0_2.index t = ![0, t.val / 32 + 16] ∧ win0_3.index t = ![0, t.val / 32 + 32] ∧ win0_4.index t = ![0, t.val / 32 + 48]
    ∧ win0_5.index t = ![0, t.val / 32] ∧ win0_6.index t = ![t.val % 32, t.val / 32] :=
  (by decide +kernel : ∀ t : Fin cfg0.N, win0_0.index t = ![t.val % 32, 0] ∧ win0_1.index t = ![0, t.val / 32]
    ∧ win0_2.index t = ![0, t.val / 32 + 16] ∧ win0_3.index t = ![0, t.val / 32 + 32] ∧ win0_4.index t = ![0, t.val / 32 + 48]
    ∧ win0_5.index t = ![0, t.val / 32] ∧ win0_6.index t = ![t.val % 32, t.val / 32]) t

/-- Row `r` of `u` (its two leading axes read as one) against column `j` of `w`. -/
def pr (u : FVec Ideal S8x4096x4096 .bf16) (w : FVec Ideal S1x4096x16384 .f32) (r : Fin 32768) (j : Fin 16384) : EReal :=
  (∑ k : Fin 4096, (u (ix3 ⟨r.val / 4096, by omega⟩ ⟨r.val % 4096, by omega⟩ k) : EReal) * (w (ix3 0 k j) : EReal) : EReal)

/-- The convolved product: the second part times the third. -/
def cx (u : FVec Ideal S8x4096x4096 .bf16) (w : FVec Ideal S1x4096x16384 .f32) (r : Fin 32768) (j : Fin 4096) : EReal :=
  pr u w r ⟨4096 + j.val, by omega⟩ * pr u w r ⟨8192 + j.val, by omega⟩

/-- Three taps down the rows, with nothing read across the edge of a block of 64 rows. -/
def taps (u : FVec Ideal S8x4096x4096 .bf16) (w : FVec Ideal S1x4096x16384 .f32) (cw : FVec Ideal S1x3x4096 .f32)
    (r : Fin 32768) (j : Fin 4096) : EReal :=
  (if r.val % 64 = 0 then 0 else cx u w ⟨r.val - 1, by omega⟩ j) * (cw (ix3 0 0 j) : EReal) + cx u w r j * (cw (ix3 0 1 j) : EReal)
    + (if h : r.val % 64 = 63 then 0 else cx u w ⟨r.val + 1, by omega⟩ j) * (cw (ix3 0 2 j) : EReal)

/-- The gate. -/
def silu (g : EReal) : EReal := Ideal.div g (1 + Ideal.exp (-g))

/-- The short gated convolution. -/
def sconv (u : FVec Ideal S8x4096x4096 .bf16) (w : FVec Ideal S1x4096x16384 .f32) (cw : FVec Ideal S1x3x4096 .f32) :
    FVec Ideal S32768x4096 .bf16 :=
  fun i => (pr u w (i 0) ⟨(i 1).val, by have : (i 1).val < 4096 := (i 1).isLt; omega⟩ * taps u w cw (i 0) (i 1)
    * silu (pr u w (i 0) ⟨12288 + (i 1).val, by have : (i 1).val < 4096 := (i 1).isLt; omega⟩) : EReal)

/-- What the output array is shown to hold. -/
abbrev spec (c : Dev nD) : Buf (Elt Ideal) ((c : Thread nD τ).loc main_v4) :=
  sconv (m ((c : Thread nD τ).loc main_arg0)) (m ((c : Thread nD τ).loc main_arg1)) (m ((c : Thread nD τ).loc main_arg2))

theorem V_u (c : Dev nD) (r : Fin 32768) (k : Fin 4096) : V m c main_v0 (ix2 r k)
    = m ((c : Thread nD τ).loc main_arg0) (ix3 ⟨r.val / 4096, by omega⟩ ⟨r.val % 4096, by omega⟩ k) := by
  entry_read
  pointwise

theorem V_w (c : Dev nD) (k : Fin 4096) (j : Fin 16384) : V m c main_v2 (ix2 k j)
    = m ((c : Thread nD τ).loc main_arg1) (ix3 0 k j) := by
  entry_read
  clean_types
  pointwise

theorem V_cw (c : Dev nD) (k : Fin 3) (j : Fin 4096) : V m c main_v3 (ix2 k j)
    = m ((c : Thread nD τ).loc main_arg2) (ix3 0 k j) := by
  entry_read
  pointwise

theorem blk_u (c : Dev nD) (t : Fin cfg0.N) (r : Fin 1024) (k : Fin 4096) : iblk m c 0 t (ix2 r k)
    = m ((c : Thread nD τ).loc main_arg0) (ix3 ⟨(t.val % 32 * 1024 + r.val) / 4096, by omega⟩ ⟨(t.val % 32 * 1024 + r.val) % 4096, by omega⟩ k) := by
  have e : (win0_0.blk t).view.emb (ix2 r k) = ix2 (⟨t.val % 32 * 1024 + r.val, by omega⟩ : Fin 32768) k := by blk_ext [idx t]
  blk_simp [iblk]
  rw [e]
  exact V_u m c _ k

theorem blk_w0 (c : Dev nD) (t : Fin cfg0.N) (k : Fin 4096) (j : Fin 256) : iblk m c 1 t (ix2 k j)
    = m ((c : Thread nD τ).loc main_arg1) (ix3 0 k ⟨(t.val / 32 * 256 + j.val), by have : t.val < 512 := t.isLt; omega⟩) := by
  have e : (win0_1.blk t).view.emb (ix2 k j) = ix2 k (⟨(t.val / 32 * 256 + j.val), by have : t.val < 512 := t.isLt; omega⟩ : Fin 16384) := by
    blk_ext [idx t]
  blk_simp [iblk]
  rw [e]
  exact V_w m c k _

theorem blk_w1 (c : Dev nD) (t : Fin cfg0.N) (k : Fin 4096) (j : Fin 256) : iblk m c 2 t (ix2 k j)
    = m ((c : Thread nD τ).loc main_arg1) (ix3 0 k ⟨4096 + (t.val / 32 * 256 + j.val), by have : t.val < 512 := t.isLt; omega⟩) := by
  have e : (win0_2.blk t).view.emb (ix2 k j) = ix2 k (⟨4096 + (t.val / 32 * 256 + j.val), by have : t.val < 512 := t.isLt; omega⟩ : Fin 16384) := by
    blk_ext [idx t]
  blk_simp [iblk]
  rw [e]
  exact V_w m c k _

theorem blk_w2 (c : Dev nD) (t : Fin cfg0.N) (k : Fin 4096) (j : Fin 256) : iblk m c 3 t (ix2 k j)
    = m ((c : Thread nD τ).loc main_arg1) (ix3 0 k ⟨8192 + (t.val / 32 * 256 + j.val), by have : t.val < 512 := t.isLt; omega⟩) := by
  have e : (win0_3.blk t).view.emb (ix2 k j) = ix2 k (⟨8192 + (t.val / 32 * 256 + j.val), by have : t.val < 512 := t.isLt; omega⟩ : Fin 16384) := by
    blk_ext [idx t]
  blk_simp [iblk]
  rw [e]
  exact V_w m c k _

theorem blk_w3 (c : Dev nD) (t : Fin cfg0.N) (k : Fin 4096) (j : Fin 256) : iblk m c 4 t (ix2 k j)
    = m ((c : Thread nD τ).loc main_arg1) (ix3 0 k ⟨12288 + (t.val / 32 * 256 + j.val), by have : t.val < 512 := t.isLt; omega⟩) := by
  have e : (win0_4.blk t).view.emb (ix2 k j) = ix2 k (⟨12288 + (t.val / 32 * 256 + j.val), by have : t.val < 512 := t.isLt; omega⟩ : Fin 16384) := by
    blk_ext [idx t]
  blk_simp [iblk]
  rw [e]
  exact V_w m c k _

theorem blk_cw (c : Dev nD) (t : Fin cfg0.N) (k : Fin 3) (j : Fin 256) : iblk m c 5 t (ix2 k j)
    = m ((c : Thread nD τ).loc main_arg2) (ix3 0 k ⟨t.val / 32 * 256 + j.val, by have : t.val < 512 := t.isLt; omega⟩) := by
  have e : (win0_5.blk t).view.emb (ix2 k j) = ix2 k (⟨t.val / 32 * 256 + j.val, by have : t.val < 512 := t.isLt; omega⟩ : Fin 4096) := by
    blk_ext [idx t]
  blk_simp [iblk]
  rw [e]
  exact V_cw m c k _

/-- A row of the block of `u` against a column of a block of `w`. -/
def mm (x : Vec Ideal S1024x4096 .bf16) (w : Vec Ideal S4096x256 .bf16) (p : Fin 1024) (q : Fin 256) : EReal :=
  (∑ k : Fin 4096, (x (ix2 p k) : EReal) * (w (ix2 k q) : EReal) : EReal)

theorem mm_w0 (c : Dev nD) (t : Fin cfg0.N) (p : Fin 1024) (q : Fin 256) : mm (iblk m c 0 t) (iblk m c 1 t) p q
    = pr (m ((c : Thread nD τ).loc main_arg0)) (m ((c : Thread nD τ).loc main_arg1)) ⟨t.val % 32 * 1024 + p.val, by omega⟩
      ⟨(t.val / 32 * 256 + q.val), by have : t.val < 512 := t.isLt; omega⟩ :=
  Finset.sum_congr rfl fun k _ => congrArg₂ (fun a b : EReal => a * b) (blk_u m c t p k) (blk_w0 m c t k q)

theorem mm_w1 (c : Dev nD) (t : Fin cfg0.N) (p : Fin 1024) (q : Fin 256) : mm (iblk m c 0 t) (iblk m c 2 t) p q
    = pr (m ((c : Thread nD τ).loc main_arg0)) (m ((c : Thread nD τ).loc main_arg1)) ⟨t.val % 32 * 1024 + p.val, by omega⟩
      ⟨4096 + (t.val / 32 * 256 + q.val), by have : t.val < 512 := t.isLt; omega⟩ :=
  Finset.sum_congr rfl fun k _ => congrArg₂ (fun a b : EReal => a * b) (blk_u m c t p k) (blk_w1 m c t k q)

theorem mm_w2 (c : Dev nD) (t : Fin cfg0.N) (p : Fin 1024) (q : Fin 256) : mm (iblk m c 0 t) (iblk m c 3 t) p q
    = pr (m ((c : Thread nD τ).loc main_arg0)) (m ((c : Thread nD τ).loc main_arg1)) ⟨t.val % 32 * 1024 + p.val, by omega⟩
      ⟨8192 + (t.val / 32 * 256 + q.val), by have : t.val < 512 := t.isLt; omega⟩ :=
  Finset.sum_congr rfl fun k _ => congrArg₂ (fun a b : EReal => a * b) (blk_u m c t p k) (blk_w2 m c t k q)

theorem mm_w3 (c : Dev nD) (t : Fin cfg0.N) (p : Fin 1024) (q : Fin 256) : mm (iblk m c 0 t) (iblk m c 4 t) p q
    = pr (m ((c : Thread nD τ).loc main_arg0)) (m ((c : Thread nD τ).loc main_arg1)) ⟨t.val % 32 * 1024 + p.val, by omega⟩
      ⟨12288 + (t.val / 32 * 256 + q.val), by have : t.val < 512 := t.isLt; omega⟩ :=
  Finset.sum_congr rfl fun k _ => congrArg₂ (fun a b : EReal => a * b) (blk_u m c t p k) (blk_w3 m c t k q)

/-- The kernel's row number within its block of 64 rows. -/
theorem pos_at (p : Fin 1024) (q : Fin 256) : k0_pay5 (ix2 p q) = BitVec.ofNat 32 (p.val % 64) := by
  pointwise [k0_pay5]
  revert p
  decide +kernel

theorem is_first (p : Fin 1024) : IntOp.cmpi CmpIPredicate.eq (BitVec.ofNat 32 (p.val % 64)) 0#32 = if p.val % 64 = 0 then 1#1 else 0#1 := by
  revert p
  decide +kernel

theorem is_last (p : Fin 1024) : IntOp.cmpi CmpIPredicate.eq (BitVec.ofNat 32 (p.val % 64)) 63#32 = if p.val % 64 = 63 then 1#1 else 0#1 := by
  revert p
  decide +kernel

/-- The three taps over one block. -/
def btaps (x : Vec Ideal S1024x4096 .bf16) (w v : Vec Ideal S4096x256 .bf16) (a b d : EReal) (p : Fin 1024) (q : Fin 256) : EReal :=
  (if p.val % 64 = 0 then 0 else mm x w ⟨p.val - 1, by omega⟩ q * mm x v ⟨p.val - 1, by omega⟩ q) * a + mm x w p q * mm x v p q * b
    + (if h : p.val % 64 = 63 then 0 else mm x w ⟨p.val + 1, by omega⟩ q * mm x v ⟨p.val + 1, by omega⟩ q) * d

theorem pay_at (v0 : Vec Ideal S1024x4096 .bf16) (v2 v5 v8 v54 : Vec Ideal S4096x256 .bf16) (v39 v43 v48 : Vec Ideal S1x256 .f32) (p : Fin 1024) (q : Fin 256) :
   k0_pay1 (k0_pay2 v0) (k0_pay3 v0 v2) (k0_pay4 v0 v5 v8) (k0_pay6 v0 v5 v8) k0_pay7 1023#32 v39 v43 v48 v54 (ix2 p q)
     = (mm v0 v2 p q * btaps v0 v5 v8 (v39 (ix2 0 q)) (v43 (ix2 0 q)) (v48 (ix2 0 q)) p q * silu (mm v0 v54 p q) : EReal) := by
  pointwise [k0_pay1, k0_pay2, k0_pay3, k0_pay4, k0_pay6, k0_pay7]
  rw [pos_at, is_first, is_last]
  simp only [mm, btaps, silu, zero_sub]
  have hf : p.val % 64 ≠ 0 → (p.val + 1024 - 1) % 1024 = p.val - 1 := by omega
  have hl : p.val % 64 ≠ 63 → (p.val + 1024 - 1023) % 1024 = p.val + 1 := by omega
  by_cases h0 : p.val % 64 = 0
  · have h1 : p.val % 64 ≠ 63 := by omega
    simp only [if_pos h0, if_neg h1, dif_neg h1, hl h1, ValueIdx.select_one, ValueIdx.select_zero, zero_mul]
  · by_cases h1 : p.val % 64 = 63
    · simp only [if_neg h0, if_pos h1, dif_pos h1, hf h0, ValueIdx.select_one, ValueIdx.select_zero, zero_mul]
    · simp only [if_neg h0, if_neg h1, dif_neg h1, hf h0, hl h1, ValueIdx.select_zero]

theorem out_at (x0 : Vec Ideal S1024x4096 .bf16) (x1 x2 x3 x4 : Vec Ideal S4096x256 .bf16) (x5 : Vec Ideal S3x256 .f32) (p : Fin 1024) (q : Fin 256) :
    out0_6 x0 x1 x2 x3 x4 x5 (ix2 p q)
     = (mm x0 x1 p q * btaps x0 x2 x3 (x5 (ix2 0 q)) (x5 (ix2 1 q)) (x5 (ix2 2 q)) p q * silu (mm x0 x4 p q) : EReal) := by
  frame_out
  rw [pay_at]
  pointwise

/-- The block's three taps are the array's: a block of 1024 rows begins at a multiple of 64. -/
theorem taps_at (c : Dev nD) (t : Fin cfg0.N) (p : Fin 1024) (q : Fin 256) :
    btaps (iblk m c 0 t) (iblk m c 2 t) (iblk m c 3 t) (iblk m c 5 t (ix2 0 q)) (iblk m c 5 t (ix2 1 q)) (iblk m c 5 t (ix2 2 q)) p q
      = taps (m ((c : Thread nD τ).loc main_arg0)) (m ((c : Thread nD τ).loc main_arg1)) (m ((c : Thread nD τ).loc main_arg2))
        ⟨t.val % 32 * 1024 + p.val, by omega⟩ ⟨t.val / 32 * 256 + q.val, by have : t.val < 512 := t.isLt; omega⟩ := by
  unfold btaps taps cx
  simp only [mm_w1, mm_w2, blk_cw]
  have e : (t.val % 32 * 1024 + p.val) % 64 = p.val % 64 := by omega
  by_cases h0 : p.val % 64 = 0
  · have h1 : p.val % 64 ≠ 63 := by omega
    simp only [e, if_pos h0, dif_neg h1]
    rfl
  · have hs : t.val % 32 * 1024 + p.val - 1 = t.val % 32 * 1024 + (p.val - 1) := by omega
    by_cases h1 : p.val % 64 = 63
    · simp only [e, if_neg h0, dif_pos h1, hs]
    · simp only [e, if_neg h0, dif_neg h1, hs]
      rfl

/-- What the body leaves at an entry of its block is the array's entry. -/
theorem out_spec (c : Dev nD) (t : Fin cfg0.N) (p : Fin 1024) (q : Fin 256) :
    out0_6 (iblk m c 0 t) (iblk m c 1 t) (iblk m c 2 t) (iblk m c 3 t) (iblk m c 4 t) (iblk m c 5 t) (ix2 p q)
      = sconv (m ((c : Thread nD τ).loc main_arg0)) (m ((c : Thread nD τ).loc main_arg1)) (m ((c : Thread nD τ).loc main_arg2))
        (ix2 (⟨t.val % 32 * 1024 + p.val, by omega⟩ : Fin 32768) (⟨t.val / 32 * 256 + q.val, by have : t.val < 512 := t.isLt; omega⟩ : Fin 4096)) := by
  rw [out_at, taps_at, mm_w0, mm_w3]
  rfl

theorem final (c : Dev nD) : (dats m 0 c).arrAt 6 cfg0.N = spec m c := by
  refine (dats m 0 c).arrAt_eq_of_covers 6 _ (by decide +kernel) fun t hf y => ?_
  blk_simp
  rw [after0_6, eq_ix2 y]
  refine (out_spec m c t (y 0) (y 1)).trans (congrArg (spec m c) ?_)
  symm
  blk_ext [idx t]

theorem run (g : Dev nD → PrngReg) : θ_run defs (onTc (τ := τ) (main (F := Ideal))) ⟨m, fun _ => 0, g⟩ fun r => ∀ c : Dev nD,
      r.2.mem ((c : Thread nD τ).loc main_v4) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m g)

end Cert.SconvIdeal.Hand

end
-- ==== Proof.SconvRef.lean ====
module

public import proofs.«01_k».proof.Defs
public import proofs.«01_k».proof.Proof.Gen.SconvIdeal.Value
public import proofs.«01_k».proof.Proof.Gen.SconvRefIdeal.Run
public import proofs.«01_k».proof.Proof.Sconv
import Idealize.ShloMosaic.Lib.KernelVsHost
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Proof.Sconv

open Cert.SconvIdeal.Hand

theorem sitofp_nought : (FloatOps.sitofp .f32 0#32 : Ideal .f32) = (0 : EReal) := by
  show ((((0#32 : BitVec 32).toInt : ℤ) : ℝ) : EReal) = 0
  simp

/-- One plus an exponential is not nought. -/
theorem one_add_exp_ne (x : EReal) : 1 + Ideal.exp x ≠ 0 := by
  induction x with
  | bot => simp
  | top => rw [Ideal.exp_top, EReal.add_top_of_ne_bot (show (1 : EReal) ≠ ⊥ from EReal.coe_ne_bot 1)]; exact EReal.top_ne_zero
  | coe r =>
    have : 0 < 1 + Real.exp r := by positivity
    simp only [Ideal.exp_coe]
    exact_mod_cast this.ne'

/-- Token `b` of sequence `a` of `u` against column `j` of `w`. -/
abbrev pa (u : FVec Ideal Cert.SconvIdeal.S8x4096x4096 .bf16) (w : FVec Ideal Cert.SconvIdeal.S1x4096x16384 .f32) (a : Fin 8) (b : Fin 4096) (j : Fin 16384) : EReal :=
  (∑ k : Fin 4096, (u (ix3 a b k) : EReal) * (w (ix3 0 k j) : EReal) : EReal)

theorem pa_eq (u : FVec Ideal Cert.SconvIdeal.S8x4096x4096 .bf16) (w : FVec Ideal Cert.SconvIdeal.S1x4096x16384 .f32) (s : Nat) (hs : s < 32768)
    (a b : Nat) (ha : a < 8) (hb : b < 4096) (j : Fin 16384) (ea : a = s / 4096) (eb : b = s % 4096) : pa u w ⟨a, ha⟩ ⟨b, hb⟩ j = pr u w ⟨s, hs⟩ j := by
  subst ea eb
  rfl

/-- The reference's layer, cut in blocks of 64 tokens and padded by a token at each end, entry by entry. -/
theorem layer_at (u : FVec Ideal Cert.SconvIdeal.S8x4096x4096 .bf16) (w : FVec Ideal Cert.SconvIdeal.S1x4096x16384 .f32)
    (cw : FVec Ideal Cert.SconvIdeal.S1x3x4096 .f32) (r : Fin 32768) (j : Fin 4096) :
    (pa u w ⟨r.val / 4096, by omega⟩ ⟨r.val % 4096, by omega⟩ ⟨j.val, by omega⟩
    * ((if h : r.val / 4096 * 64 + r.val % 4096 / 64 < 512 ∧ 1 ≤ r.val % 4096 % 64 ∧ r.val % 4096 % 64 - 1 < 64 then pa u w ⟨(r.val / 4096 * 64 + r.val % 4096 / 64) / 64, by omega⟩ ⟨(r.val / 4096 * 64 + r.val % 4096 / 64) % 64 * 64 + (r.val % 4096 % 64 - 1), by omega⟩ ⟨4096 + j.val, by omega⟩ * pa u w ⟨(r.val / 4096 * 64 + r.val % 4096 / 64) / 64, by omega⟩ ⟨(r.val / 4096 * 64 + r.val % 4096 / 64) % 64 * 64 + (r.val % 4096 % 64 - 1), by omega⟩ ⟨8192 + j.val, by omega⟩
      else (FloatOps.sitofp .f32 0#32 : Ideal .f32)) * (cw (ix3 0 0 j) : EReal)
    + (if h : r.val / 4096 * 64 + r.val % 4096 / 64 < 512 ∧ r.val % 4096 % 64 < 64 then pa u w ⟨(r.val / 4096 * 64 + r.val % 4096 / 64) / 64, by omega⟩ ⟨(r.val / 4096 * 64 + r.val % 4096 / 64) % 64 * 64 + r.val % 4096 % 64, by omega⟩ ⟨4096 + j.val, by omega⟩ * pa u w ⟨(r.val / 4096 * 64 + r.val % 4096 / 64) / 64, by omega⟩ ⟨(r.val / 4096 * 64 + r.val % 4096 / 64) % 64 * 64 + r.val % 4096 % 64, by omega⟩ ⟨8192 + j.val, by omega⟩
      else (FloatOps.sitofp .f32 0#32 : Ideal .f32)) * (cw (ix3 0 1 j) : EReal)
    + (if h : r.val / 4096 * 64 + r.val % 4096 / 64 < 512 ∧ 1 ≤ 2 + r.val % 4096 % 64 ∧ 2 + r.val % 4096 % 64 - 1 < 64 then pa u w ⟨(r.val / 4096 * 64 + r.val % 4096 / 64) / 64, by omega⟩ ⟨(r.val / 4096 * 64 + r.val % 4096 / 64) % 64 * 64 + (2 + r.val % 4096 % 64 - 1), by omega⟩ ⟨4096 + j.val, by omega⟩ * pa u w ⟨(r.val / 4096 * 64 + r.val % 4096 / 64) / 64, by omega⟩ ⟨(r.val / 4096 * 64 + r.val % 4096 / 64) % 64 * 64 + (2 + r.val % 4096 % 64 - 1), by omega⟩ ⟨8192 + j.val, by omega⟩
      else (FloatOps.sitofp .f32 0#32 : Ideal .f32)) * (cw (ix3 0 2 j) : EReal))
    * (pa u w ⟨r.val / 4096, by omega⟩ ⟨r.val % 4096, by omega⟩ ⟨12288 + j.val, by omega⟩
      * Ideal.div 1 (1 + Ideal.exp (-pa u w ⟨r.val / 4096, by omega⟩ ⟨r.val % 4096, by omega⟩ ⟨12288 + j.val, by omega⟩))) : EReal) = sconv u w cw (ix2 r j) := by
  show _ = pr u w r _ * taps u w cw r j * silu (pr u w r _)
  have hb : r.val / 4096 * 64 + r.val % 4096 / 64 < 512 := by omega
  have hr := r.isLt
  have hd (g : EReal) : Ideal.div g (1 + Ideal.exp (-g)) = g * Ideal.div 1 (1 + Ideal.exp (-g)) := by
    have : (1 + Ideal.exp (-g)) ≠ 0 := one_add_exp_ne _
    simp only [Ideal.div, if_neg this, one_mul]
  rw [sitofp_nought, silu, hd]
  congr 2
  unfold taps cx
  have cur (k : Fin 16384) := pa_eq u w r.val hr ((r.val / 4096 * 64 + r.val % 4096 / 64) / 64) ((r.val / 4096 * 64 + r.val % 4096 / 64) % 64 * 64 + r.val % 4096 % 64) (by omega) (by omega) k (by omega) (by omega)
  rw [dif_pos (show r.val / 4096 * 64 + r.val % 4096 / 64 < 512 ∧ r.val % 4096 % 64 < 64 from ⟨hb, by omega⟩), cur, cur]
  by_cases h0 : r.val % 64 = 0
  · have h1 : ¬ r.val % 64 = 63 := by omega
    have next (k : Fin 16384) := pa_eq u w (r.val + 1) (by omega) ((r.val / 4096 * 64 + r.val % 4096 / 64) / 64) ((r.val / 4096 * 64 + r.val % 4096 / 64) % 64 * 64 + (2 + r.val % 4096 % 64 - 1)) (by omega) (by omega) k (by omega) (by omega)
    rw [if_pos h0, dif_neg h1, dif_neg (fun h => by have := h.2.1; omega), dif_pos ⟨hb, by omega, by omega⟩, next, next]
  · have prev (k : Fin 16384) := pa_eq u w (r.val - 1) (by omega) ((r.val / 4096 * 64 + r.val % 4096 / 64) / 64) ((r.val / 4096 * 64 + r.val % 4096 / 64) % 64 * 64 + (r.val % 4096 % 64 - 1)) (by omega) (by omega) k (by omega) (by omega)
    rw [if_neg h0, dif_pos (show r.val / 4096 * 64 + r.val % 4096 / 64 < 512 ∧ 1 ≤ r.val % 4096 % 64 ∧ r.val % 4096 % 64 - 1 < 64 from ⟨hb, by omega, by omega⟩), prev, prev]
    by_cases h1 : r.val % 64 = 63
    · rw [dif_pos h1, dif_neg (fun h => by have := h.2.2; omega)]
    · have next (k : Fin 16384) := pa_eq u w (r.val + 1) (by omega) ((r.val / 4096 * 64 + r.val % 4096 / 64) / 64) ((r.val / 4096 * 64 + r.val % 4096 / 64) % 64 * 64 + (2 + r.val % 4096 % 64 - 1)) (by omega) (by omega) k (by omega) (by omega)
      rw [dif_neg h1, dif_pos ⟨hb, by omega, by omega⟩, next, next]

theorem ref_at (m : (ℓ : Loc Cert.SconvRefIdeal.nD Cert.SconvRefIdeal.τ Cert.SconvRefIdeal.sig) → Buf (Elt Ideal) ℓ) (c : Dev Cert.SconvRefIdeal.nD) (r : Fin 32768) (j : Fin 4096) :
   Cert.SconvRefIdeal.Value.res_main_v36 m c (ix2 r j) =
      sconv (m ((c : Thread Cert.SconvRefIdeal.nD Cert.SconvRefIdeal.τ).loc Cert.SconvRefIdeal.main_arg0))
       (m ((c : Thread Cert.SconvRefIdeal.nD Cert.SconvRefIdeal.τ).loc Cert.SconvRefIdeal.main_arg1))
       (m ((c : Thread Cert.SconvRefIdeal.nD Cert.SconvRefIdeal.τ).loc Cert.SconvRefIdeal.main_arg2)) (ix2 r j) := by
  generalize hR : (sconv _ _ _ (ix2 r j) : EReal) = R
  unfold Cert.SconvRefIdeal.Value.res_main_v36
  clean_types
  pointwise
  refine Eq.trans ?_ hR
  exact layer_at _ _ _ r j

/-- The short convolution's kernel and its reference leave the same array. -/
theorem algebraic : Cert.algebraic_SconvIdeal_SconvRefIdeal := by
  intro m g m' g' _ hagree
  refine ⟨fun c => Cert.SconvIdeal.Hand.spec m c, Cert.SconvIdeal.Hand.run m g, ?_⟩
  refine (θ_run Cert.SconvRefIdeal.defs _ _).mono (fun _ h c => ⟨(h c).1.trans ?_, (h c).2⟩)
    (Cert.SconvRefIdeal.Value.run (F := Ideal) m' g')
  funext i
  rw [eq_ix2 i]
  refine (ref_at m' c (i 0) (i 1)).trans ?_
  rw [(hagree c).1, (hagree c).2.1, (hagree c).2.2]

end Cert.Proof.Sconv

end
-- ==== Proof.Hyena.lean ====
module

public import proofs.«01_k».proof.Defs
public import proofs.«01_k».proof.Proof.Gen.HyenaIdeal.Value
public import proofs.«01_k».proof.Proof.Gen.HyenaRefIdeal.Run
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.HyenaIdeal.Hand

open Cert.HyenaIdeal Cert.HyenaIdeal.Gen

variable (m : (ℓ : Loc nD τ sig) → Buf (Elt Ideal) ℓ) (ρ : Dev nD → PrngReg)

/-- The block of each window at a point: the grid runs over 16 column blocks, and over 32 row blocks within each. -/
theorem idx (t : Fin cfg0.N) : win0_0.index t = ![t.val % 32, 0] ∧ win0_1.index t = ![0, t.val / 32] ∧ win0_2.index t = ![0, t.val / 32 + 16]
    ∧ win0_3.index t = ![0, t.val / 32 + 32] ∧ win0_4.index t = ![0, t.val / 32 + 48] ∧ win0_5.index t = ![0, t.val / 32]
    ∧ win0_6.index t = ![0, t.val / 32 + 16] ∧ win0_7.index t = ![0, t.val / 32 + 32] ∧ win0_8.index t = ![0, t.val / 32]
    ∧ win0_9.index t = ![0, t.val / 32 + 16] ∧ win0_10.index t = ![0, t.val / 32 + 32] ∧ win0_11.index t = ![t.val % 32, t.val / 32] ∧ win0_12.index t = ![t.val % 32, t.val / 32] :=
  (by decide +kernel : ∀ t : Fin cfg0.N, win0_0.index t = ![t.val % 32, 0] ∧ win0_1.index t = ![0, t.val / 32] ∧ win0_2.index t = ![0, t.val / 32 + 16]
    ∧ win0_3.index t = ![0, t.val / 32 + 32] ∧ win0_4.index t = ![0, t.val / 32 + 48] ∧ win0_5.index t = ![0, t.val / 32]
    ∧ win0_6.index t = ![0, t.val / 32 + 16] ∧ win0_7.index t = ![0, t.val / 32 + 32] ∧ win0_8.index t = ![0, t.val / 32]
    ∧ win0_9.index t = ![0, t.val / 32 + 16] ∧ win0_10.index t = ![0, t.val / 32 + 32] ∧ win0_11.index t = ![t.val % 32, t.val / 32] ∧ win0_12.index t = ![t.val % 32, t.val / 32]) t

/-- Row `r` of `u` (its two leading axes read as one) against column `j` of `w`. -/
def pr (u : FVec Ideal S8x4096x4096 .bf16) (w : FVec Ideal S4096x16384 .f32) (r : Fin 32768) (j : Fin 16384) : EReal :=
  (∑ k : Fin 4096, (u (ix3 ⟨r.val / 4096, by omega⟩ ⟨r.val % 4096, by omega⟩ k) : EReal) * (w (ix2 k j) : EReal) : EReal)

/-- Three taps down the rows and the bias, with nothing read across the edge of a block of 64 rows. -/
def taps (u : FVec Ideal S8x4096x4096 .bf16) (w : FVec Ideal S4096x16384 .f32) (cw : FVec Ideal S3x12288 .f32) (cb : FVec Ideal S12288 .f32) (r : Fin 32768) (j : Fin 12288) : EReal :=
  (if r.val % 64 = 0 then 0 else pr u w ⟨r.val - 1, by omega⟩ ⟨j.val, by omega⟩) * (cw (ix2 0 j) : EReal) + pr u w r ⟨j.val, by omega⟩ * (cw (ix2 1 j) : EReal)
    + (if h : r.val % 64 = 63 then 0 else pr u w ⟨r.val + 1, by omega⟩ ⟨j.val, by omega⟩) * (cw (ix2 2 j) : EReal) + (cb (ix1 j) : EReal)

/-- The gate. -/
def silu (g : EReal) : EReal := Ideal.div g (1 + Ideal.exp (-g))

/-- What the long convolution reads: the convolved third part times the convolved second. -/
def inner (u : FVec Ideal S8x4096x4096 .bf16) (w : FVec Ideal S4096x16384 .f32) (cw : FVec Ideal S3x12288 .f32) (cb : FVec Ideal S12288 .f32) : FVec Ideal S32768x4096 .f32 :=
  fun i => (taps u w cw cb (i 0) ⟨8192 + (i 1).val, by have : (i 1).val < 4096 := (i 1).isLt; omega⟩
    * taps u w cw cb (i 0) ⟨4096 + (i 1).val, by have : (i 1).val < 4096 := (i 1).isLt; omega⟩ : EReal)

/-- What multiplies the long convolution's result: the convolved first part, gated. -/
def outer (u : FVec Ideal S8x4096x4096 .bf16) (w : FVec Ideal S4096x16384 .f32) (cw : FVec Ideal S3x12288 .f32) (cb : FVec Ideal S12288 .f32) : FVec Ideal S32768x4096 .f32 :=
  fun i => (taps u w cw cb (i 0) ⟨(i 1).val, by have : (i 1).val < 4096 := (i 1).isLt; omega⟩
    * silu (pr u w (i 0) ⟨12288 + (i 1).val, by have : (i 1).val < 4096 := (i 1).isLt; omega⟩) : EReal)

/-- What the two output arrays are shown to hold. -/
abbrev spec0 (c : Dev nD) : Buf (Elt Ideal) ((c : Thread nD τ).loc main_v3_0) :=
  inner (m ((c : Thread nD τ).loc main_arg0)) (m ((c : Thread nD τ).loc main_arg1)) (m ((c : Thread nD τ).loc main_arg2)) (m ((c : Thread nD τ).loc main_arg3))
abbrev spec1 (c : Dev nD) : Buf (Elt Ideal) ((c : Thread nD τ).loc main_v3_1) :=
  outer (m ((c : Thread nD τ).loc main_arg0)) (m ((c : Thread nD τ).loc main_arg1)) (m ((c : Thread nD τ).loc main_arg2)) (m ((c : Thread nD τ).loc main_arg3))

theorem V_u (c : Dev nD) (r : Fin 32768) (k : Fin 4096) : V m c main_v0 (ix2 r k)
    = m ((c : Thread nD τ).loc main_arg0) (ix3 ⟨r.val / 4096, by omega⟩ ⟨r.val % 4096, by omega⟩ k) := by
  entry_read
  pointwise

theorem V_w (c : Dev nD) (k : Fin 4096) (j : Fin 16384) : V m c main_v1 (ix2 k j)
    = m ((c : Thread nD τ).loc main_arg1) (ix2 k j) := by
  entry_read
  clean_types
  pointwise

theorem V_cb (c : Dev nD) (j : Fin 12288) : V m c main_v2 (ix2 0 j)
    = m ((c : Thread nD τ).loc main_arg3) (ix1 j) := by
  entry_read
  pointwise

theorem blk_u (c : Dev nD) (t : Fin cfg0.N) (r : Fin 1024) (k : Fin 4096) : iblk m c 0 t (ix2 r k)
    = m ((c : Thread nD τ).loc main_arg0) (ix3 ⟨(t.val % 32 * 1024 + r.val) / 4096, by omega⟩ ⟨(t.val % 32 * 1024 + r.val) % 4096, by omega⟩ k) := by
  have e : (win0_0.blk t).view.emb (ix2 r k) = ix2 (⟨t.val % 32 * 1024 + r.val, by omega⟩ : Fin 32768) k := by blk_ext [idx t]
  blk_simp [iblk]
  rw [e]
  exact V_u m c _ k

theorem blk_w0 (c : Dev nD) (t : Fin cfg0.N) (k : Fin 4096) (j : Fin 256) : iblk m c 1 t (ix2 k j)
    = m ((c : Thread nD τ).loc main_arg1) (ix2 k ⟨(t.val / 32 * 256 + j.val), by have : t.val < 512 := t.isLt; omega⟩) := by
  have e : (win0_1.blk t).view.emb (ix2 k j) = ix2 k (⟨(t.val / 32 * 256 + j.val), by have : t.val < 512 := t.isLt; omega⟩ : Fin 16384) := by
    blk_ext [idx t]
  blk_simp [iblk]
  rw [e]
  exact V_w m c k _

theorem blk_w1 (c : Dev nD) (t : Fin cfg0.N) (k : Fin 4096) (j : Fin 256) : iblk m c 2 t (ix2 k j)
    = m ((c : Thread nD τ).loc main_arg1) (ix2 k ⟨4096 + (t.val / 32 * 256 + j.val), by have : t.val < 512 := t.isLt; omega⟩) := by
  have e : (win0_2.blk t).view.emb (ix2 k j) = ix2 k (⟨4096 + (t.val / 32 * 256 + j.val), by have : t.val < 512 := t.isLt; omega⟩ : Fin 16384) := by
    blk_ext [idx t]
  blk_simp [iblk]
  rw [e]
  exact V_w m c k _

theorem blk_w2 (c : Dev nD) (t : Fin cfg0.N) (k : Fin 4096) (j : Fin 256) : iblk m c 3 t (ix2 k j)
    = m ((c : Thread nD τ).loc main_arg1) (ix2 k ⟨8192 + (t.val / 32 * 256 + j.val), by have : t.val < 512 := t.isLt; omega⟩) := by
  have e : (win0_3.blk t).view.emb (ix2 k j) = ix2 k (⟨8192 + (t.val / 32 * 256 + j.val), by have : t.val < 512 := t.isLt; omega⟩ : Fin 16384) := by
    blk_ext [idx t]
  blk_simp [iblk]
  rw [e]
  exact V_w m c k _

theorem blk_w3 (c : Dev nD) (t : Fin cfg0.N) (k : Fin 4096) (j : Fin 256) : iblk m c 4 t (ix2 k j)
    = m ((c : Thread nD τ).loc main_arg1) (ix2 k ⟨12288 + (t.val / 32 * 256 + j.val), by have : t.val < 512 := t.isLt; omega⟩) := by
  have e : (win0_4.blk t).view.emb (ix2 k j) = ix2 k (⟨12288 + (t.val / 32 * 256 + j.val), by have : t.val < 512 := t.isLt; omega⟩ : Fin 16384) := by
    blk_ext [idx t]
  blk_simp [iblk]
  rw [e]
  exact V_w m c k _

theorem blk_cw0 (c : Dev nD) (t : Fin cfg0.N) (k : Fin 3) (j : Fin 256) : iblk m c 5 t (ix2 k j)
    = m ((c : Thread nD τ).loc main_arg2) (ix2 k ⟨(t.val / 32 * 256 + j.val), by have : t.val < 512 := t.isLt; omega⟩) := by
  have e : (win0_5.blk t).view.emb (ix2 k j) = ix2 k (⟨(t.val / 32 * 256 + j.val), by have : t.val < 512 := t.isLt; omega⟩ : Fin 12288) := by
    blk_ext [idx t]
  blk_simp [iblk]
  rw [e, V_main_arg2]

theorem blk_cb0 (c : Dev nD) (t : Fin cfg0.N) (j : Fin 256) : iblk m c 8 t (ix2 0 j)
    = m ((c : Thread nD τ).loc main_arg3) (ix1 ⟨(t.val / 32 * 256 + j.val), by have : t.val < 512 := t.isLt; omega⟩) := by
  have e : (win0_8.blk t).view.emb (ix2 0 j) = ix2 0 (⟨(t.val / 32 * 256 + j.val), by have : t.val < 512 := t.isLt; omega⟩ : Fin 12288) := by
    blk_ext [idx t]
  blk_simp [iblk]
  rw [e]
  exact V_cb m c _

theorem blk_cw1 (c : Dev nD) (t : Fin cfg0.N) (k : Fin 3) (j : Fin 256) : iblk m c 6 t (ix2 k j)
    = m ((c : Thread nD τ).loc main_arg2) (ix2 k ⟨4096 + (t.val / 32 * 256 + j.val), by have : t.val < 512 := t.isLt; omega⟩) := by
  have e : (win0_6.blk t).view.emb (ix2 k j) = ix2 k (⟨4096 + (t.val / 32 * 256 + j.val), by have : t.val < 512 := t.isLt; omega⟩ : Fin 12288) := by
    blk_ext [idx t]
  blk_simp [iblk]
  rw [e, V_main_arg2]

theorem blk_cb1 (c : Dev nD) (t : Fin cfg0.N) (j : Fin 256) : iblk m c 9 t (ix2 0 j)
    = m ((c : Thread nD τ).loc main_arg3) (ix1 ⟨4096 + (t.val / 32 * 256 + j.val), by have : t.val < 512 := t.isLt; omega⟩) := by
  have e : (win0_9.blk t).view.emb (ix2 0 j) = ix2 0 (⟨4096 + (t.val / 32 * 256 + j.val), by have : t.val < 512 := t.isLt; omega⟩ : Fin 12288) := by
    blk_ext [idx t]
  blk_simp [iblk]
  rw [e]
  exact V_cb m c _

theorem blk_cw2 (c : Dev nD) (t : Fin cfg0.N) (k : Fin 3) (j : Fin 256) : iblk m c 7 t (ix2 k j)
    = m ((c : Thread nD τ).loc main_arg2) (ix2 k ⟨8192 + (t.val / 32 * 256 + j.val), by have : t.val < 512 := t.isLt; omega⟩) := by
  have e : (win0_7.blk t).view.emb (ix2 k j) = ix2 k (⟨8192 + (t.val / 32 * 256 + j.val), by have : t.val < 512 := t.isLt; omega⟩ : Fin 12288) := by
    blk_ext [idx t]
  blk_simp [iblk]
  rw [e, V_main_arg2]

theorem blk_cb2 (c : Dev nD) (t : Fin cfg0.N) (j : Fin 256) : iblk m c 10 t (ix2 0 j)
    = m ((c : Thread nD τ).loc main_arg3) (ix1 ⟨8192 + (t.val / 32 * 256 + j.val), by have : t.val < 512 := t.isLt; omega⟩) := by
  have e : (win0_10.blk t).view.emb (ix2 0 j) = ix2 0 (⟨8192 + (t.val / 32 * 256 + j.val), by have : t.val < 512 := t.isLt; omega⟩ : Fin 12288) := by
    blk_ext [idx t]
  blk_simp [iblk]
  rw [e]
  exact V_cb m c _

/-- A row of the block of `u` against a column of a block of `w`. -/
def mm (x : Vec Ideal S1024x4096 .bf16) (w : Vec Ideal S4096x256 .bf16) (p : Fin 1024) (q : Fin 256) : EReal :=
  (∑ k : Fin 4096, (x (ix2 p k) : EReal) * (w (ix2 k q) : EReal) : EReal)

theorem mm_w0 (c : Dev nD) (t : Fin cfg0.N) (p : Fin 1024) (q : Fin 256) : mm (iblk m c 0 t) (iblk m c 1 t) p q
    = pr (m ((c : Thread nD τ).loc main_arg0)) (m ((c : Thread nD τ).loc main_arg1)) ⟨t.val % 32 * 1024 + p.val, by omega⟩
      ⟨(t.val / 32 * 256 + q.val), by have : t.val < 512 := t.isLt; omega⟩ :=
  Finset.sum_congr rfl fun k _ => congrArg₂ (fun a b : EReal => a * b) (blk_u m c t p k) (blk_w0 m c t k q)

theorem mm_w1 (c : Dev nD) (t : Fin cfg0.N) (p : Fin 1024) (q : Fin 256) : mm (iblk m c 0 t) (iblk m c 2 t) p q
    = pr (m ((c : Thread nD τ).loc main_arg0)) (m ((c : Thread nD τ).loc main_arg1)) ⟨t.val % 32 * 1024 + p.val, by omega⟩
      ⟨4096 + (t.val / 32 * 256 + q.val), by have : t.val < 512 := t.isLt; omega⟩ :=
  Finset.sum_congr rfl fun k _ => congrArg₂ (fun a b : EReal => a * b) (blk_u m c t p k) (blk_w1 m c t k q)

theorem mm_w2 (c : Dev nD) (t : Fin cfg0.N) (p : Fin 1024) (q : Fin 256) : mm (iblk m c 0 t) (iblk m c 3 t) p q
    = pr (m ((c : Thread nD τ).loc main_arg0)) (m ((c : Thread nD τ).loc main_arg1)) ⟨t.val % 32 * 1024 + p.val, by omega⟩
      ⟨8192 + (t.val / 32 * 256 + q.val), by have : t.val < 512 := t.isLt; omega⟩ :=
  Finset.sum_congr rfl fun k _ => congrArg₂ (fun a b : EReal => a * b) (blk_u m c t p k) (blk_w2 m c t k q)

theorem mm_w3 (c : Dev nD) (t : Fin cfg0.N) (p : Fin 1024) (q : Fin 256) : mm (iblk m c 0 t) (iblk m c 4 t) p q
    = pr (m ((c : Thread nD τ).loc main_arg0)) (m ((c : Thread nD τ).loc main_arg1)) ⟨t.val % 32 * 1024 + p.val, by omega⟩
      ⟨12288 + (t.val / 32 * 256 + q.val), by have : t.val < 512 := t.isLt; omega⟩ :=
  Finset.sum_congr rfl fun k _ => congrArg₂ (fun a b : EReal => a * b) (blk_u m c t p k) (blk_w3 m c t k q)

/-- The kernel's row number within its block of 64 rows. -/
theorem pos4_at (p : Fin 1024) (q : Fin 256) : k0_pay4 (ix2 p q) = BitVec.ofNat 32 (p.val % 64) := by
  pointwise [k0_pay4]
  revert p
  decide +kernel

/-- The kernel's row number within its block of 64 rows. -/
theorem pos10_at (p : Fin 1024) (q : Fin 256) : k0_pay10 (ix2 p q) = BitVec.ofNat 32 (p.val % 64) := by
  pointwise [k0_pay10]
  revert p
  decide +kernel

/-- The kernel's row number within its block of 64 rows. -/
theorem pos15_at (p : Fin 1024) (q : Fin 256) : k0_pay15 (ix2 p q) = BitVec.ofNat 32 (p.val % 64) := by
  pointwise [k0_pay15]
  revert p
  decide +kernel

theorem is_first (p : Fin 1024) : IntOp.cmpi CmpIPredicate.eq (BitVec.ofNat 32 (p.val % 64)) 0#32 = if p.val % 64 = 0 then 1#1 else 0#1 := by
  revert p
  decide +kernel

theorem is_last (p : Fin 1024) : IntOp.cmpi CmpIPredicate.eq (BitVec.ofNat 32 (p.val % 64)) 63#32 = if p.val % 64 = 63 then 1#1 else 0#1 := by
  revert p
  decide +kernel

/-- The three taps and the bias over one block. -/
def btaps (x : Vec Ideal S1024x4096 .bf16) (w : Vec Ideal S4096x256 .bf16) (a b d e : EReal) (p : Fin 1024) (q : Fin 256) : EReal :=
  (if p.val % 64 = 0 then 0 else mm x w ⟨p.val - 1, by omega⟩ q) * a + mm x w p q * b
    + (if h : p.val % 64 = 63 then 0 else mm x w ⟨p.val + 1, by omega⟩ q) * d + e

theorem pay1_at (v0 : Vec Ideal S1024x4096 .bf16) (w g : Vec Ideal S4096x256 .bf16) (a0 a1 a2 a3 : Vec Ideal S1x256 .f32) (p : Fin 1024) (q : Fin 256) :
   k0_pay1 (k0_pay2 v0) (k0_pay14 (k0_pay2 v0) w) k0_pay15 k0_pay16 1#32 a0 a1 a2 a3 g (ix2 p q)
     = (btaps v0 w (a0 (ix2 0 q)) (a1 (ix2 0 q)) (a2 (ix2 0 q)) (a3 (ix2 0 q)) p q * silu (mm v0 g p q) : EReal) := by
  pointwise [k0_pay1, k0_pay2, k0_pay14, k0_pay16]
  rw [pos15_at, is_first, is_last]
  simp only [mm, btaps, silu, zero_sub]
  have hf : p.val % 64 ≠ 0 → (p.val + 1024 - 1) % 1024 = p.val - 1 := by omega
  have hl : p.val % 64 ≠ 63 → (p.val + 1024 - 1023) % 1024 = p.val + 1 := by omega
  by_cases h0 : p.val % 64 = 0
  · have h1 : p.val % 64 ≠ 63 := by omega
    simp only [if_pos h0, if_neg h1, dif_neg h1, hl h1, ValueIdx.select_one, ValueIdx.select_zero, zero_mul]
  · by_cases h1 : p.val % 64 = 63
    · simp only [if_neg h0, if_pos h1, dif_pos h1, hf h0, ValueIdx.select_one, ValueIdx.select_zero, zero_mul]
    · simp only [if_neg h0, if_neg h1, dif_neg h1, hf h0, hl h1, ValueIdx.select_zero]

theorem pay13_at (v0 : Vec Ideal S1024x4096 .bf16) (w v : Vec Ideal S4096x256 .bf16) (a0 a1 a2 a3 b0 b1 b2 b3 : Vec Ideal S1x256 .f32) (p : Fin 1024) (q : Fin 256) :
   k0_pay13 (k0_pay8 (k0_pay3 v0 w) (k0_pay5 v0 w) (k0_pay6 v0 w a0) (k0_pay7 a1) a2 a3) (k0_pay9 (k0_pay2 v0) v) (k0_pay11 (k0_pay2 v0) v) (k0_pay12 (k0_pay2 v0) v) b0 b1 b2 b3 (ix2 p q)
     = (btaps v0 v (b0 (ix2 0 q)) (b1 (ix2 0 q)) (b2 (ix2 0 q)) (b3 (ix2 0 q)) p q
       * btaps v0 w (a0 (ix2 0 q)) (a1 (ix2 0 q)) (a2 (ix2 0 q)) (a3 (ix2 0 q)) p q : EReal) := by
  pointwise [k0_pay13, k0_pay2, k0_pay3, k0_pay5, k0_pay6, k0_pay7, k0_pay8, k0_pay9, k0_pay11, k0_pay12]
  rw [pos4_at, pos10_at, is_first, is_last]
  simp only [mm, btaps]
  have hf : p.val % 64 ≠ 0 → (p.val + 1024 - 1) % 1024 = p.val - 1 := by omega
  have hl : p.val % 64 ≠ 63 → (p.val + 1024 - 1023) % 1024 = p.val + 1 := by omega
  by_cases h0 : p.val % 64 = 0
  · have h1 : p.val % 64 ≠ 63 := by omega
    simp only [if_pos h0, if_neg h1, dif_neg h1, hl h1, ValueIdx.select_one, ValueIdx.select_zero, zero_mul]
  · by_cases h1 : p.val % 64 = 63
    · simp only [if_neg h0, if_pos h1, dif_pos h1, hf h0, ValueIdx.select_one, ValueIdx.select_zero, zero_mul]
    · simp only [if_neg h0, if_neg h1, dif_neg h1, hf h0, hl h1, ValueIdx.select_zero]

theorem out11_at (x0 : Vec Ideal S1024x4096 .bf16) (x1 x2 x3 x4 : Vec Ideal S4096x256 .bf16) (x5 x6 x7 : Vec Ideal S3x256 .f32) (x8 x9 x10 : Vec Ideal S1x256 .f32) (p : Fin 1024) (q : Fin 256) :
    out0_11 x0 x1 x2 x3 x4 x5 x6 x7 x8 x9 x10 (ix2 p q)
     = (btaps x0 x3 (x7 (ix2 0 q)) (x7 (ix2 1 q)) (x7 (ix2 2 q)) (x10 (ix2 0 q)) p q
       * btaps x0 x2 (x6 (ix2 0 q)) (x6 (ix2 1 q)) (x6 (ix2 2 q)) (x9 (ix2 0 q)) p q : EReal) := by
  unfold out0_11 k0_pay17
  frame_out
  rw [pay13_at]
  pointwise

theorem out12_at (x0 : Vec Ideal S1024x4096 .bf16) (x1 x2 x3 x4 : Vec Ideal S4096x256 .bf16) (x5 x6 x7 : Vec Ideal S3x256 .f32) (x8 x9 x10 : Vec Ideal S1x256 .f32) (p : Fin 1024) (q : Fin 256) :
    out0_12 x0 x1 x2 x3 x4 x5 x6 x7 x8 x9 x10 (ix2 p q)
     = (btaps x0 x1 (x5 (ix2 0 q)) (x5 (ix2 1 q)) (x5 (ix2 2 q)) (x8 (ix2 0 q)) p q * silu (mm x0 x4 p q) : EReal) := by
  unfold out0_12 k0_pay17
  frame_out
  rw [pay1_at]
  pointwise

theorem taps0_at (c : Dev nD) (t : Fin cfg0.N) (p : Fin 1024) (q : Fin 256) :
    btaps (iblk m c 0 t) (iblk m c 1 t) (iblk m c 5 t (ix2 0 q)) (iblk m c 5 t (ix2 1 q)) (iblk m c 5 t (ix2 2 q)) (iblk m c 8 t (ix2 0 q)) p q
      = taps (m ((c : Thread nD τ).loc main_arg0)) (m ((c : Thread nD τ).loc main_arg1)) (m ((c : Thread nD τ).loc main_arg2)) (m ((c : Thread nD τ).loc main_arg3))
        ⟨t.val % 32 * 1024 + p.val, by omega⟩ ⟨(t.val / 32 * 256 + q.val), by have : t.val < 512 := t.isLt; omega⟩ := by
  unfold btaps taps
  simp only [mm_w0, blk_cw0, blk_cb0]
  have e : (t.val % 32 * 1024 + p.val) % 64 = p.val % 64 := by omega
  by_cases h0 : p.val % 64 = 0
  · have h1 : p.val % 64 ≠ 63 := by omega
    simp only [e, if_pos h0, dif_neg h1]
    rfl
  · have hs : t.val % 32 * 1024 + p.val - 1 = t.val % 32 * 1024 + (p.val - 1) := by omega
    by_cases h1 : p.val % 64 = 63
    · simp only [e, if_neg h0, dif_pos h1, hs]
    · simp only [e, if_neg h0, dif_neg h1, hs]
      rfl

theorem taps1_at (c : Dev nD) (t : Fin cfg0.N) (p : Fin 1024) (q : Fin 256) :
    btaps (iblk m c 0 t) (iblk m c 2 t) (iblk m c 6 t (ix2 0 q)) (iblk m c 6 t (ix2 1 q)) (iblk m c 6 t (ix2 2 q)) (iblk m c 9 t (ix2 0 q)) p q
      = taps (m ((c : Thread nD τ).loc main_arg0)) (m ((c : Thread nD τ).loc main_arg1)) (m ((c : Thread nD τ).loc main_arg2)) (m ((c : Thread nD τ).loc main_arg3))
        ⟨t.val % 32 * 1024 + p.val, by omega⟩ ⟨4096 + (t.val / 32 * 256 + q.val), by have : t.val < 512 := t.isLt; omega⟩ := by
  unfold btaps taps
  simp only [mm_w1, blk_cw1, blk_cb1]
  have e : (t.val % 32 * 1024 + p.val) % 64 = p.val % 64 := by omega
  by_cases h0 : p.val % 64 = 0
  · have h1 : p.val % 64 ≠ 63 := by omega
    simp only [e, if_pos h0, dif_neg h1]
    rfl
  · have hs : t.val % 32 * 1024 + p.val - 1 = t.val % 32 * 1024 + (p.val - 1) := by omega
    by_cases h1 : p.val % 64 = 63
    · simp only [e, if_neg h0, dif_pos h1, hs]
    · simp only [e, if_neg h0, dif_neg h1, hs]
      rfl

theorem taps2_at (c : Dev nD) (t : Fin cfg0.N) (p : Fin 1024) (q : Fin 256) :
    btaps (iblk m c 0 t) (iblk m c 3 t) (iblk m c 7 t (ix2 0 q)) (iblk m c 7 t (ix2 1 q)) (iblk m c 7 t (ix2 2 q)) (iblk m c 10 t (ix2 0 q)) p q
      = taps (m ((c : Thread nD τ).loc main_arg0)) (m ((c : Thread nD τ).loc main_arg1)) (m ((c : Thread nD τ).loc main_arg2)) (m ((c : Thread nD τ).loc main_arg3))
        ⟨t.val % 32 * 1024 + p.val, by omega⟩ ⟨8192 + (t.val / 32 * 256 + q.val), by have : t.val < 512 := t.isLt; omega⟩ := by
  unfold btaps taps
  simp only [mm_w2, blk_cw2, blk_cb2]
  have e : (t.val % 32 * 1024 + p.val) % 64 = p.val % 64 := by omega
  by_cases h0 : p.val % 64 = 0
  · have h1 : p.val % 64 ≠ 63 := by omega
    simp only [e, if_pos h0, dif_neg h1]
    rfl
  · have hs : t.val % 32 * 1024 + p.val - 1 = t.val % 32 * 1024 + (p.val - 1) := by omega
    by_cases h1 : p.val % 64 = 63
    · simp only [e, if_neg h0, dif_pos h1, hs]
    · simp only [e, if_neg h0, dif_neg h1, hs]
      rfl

/-- What the body leaves at an entry of its block is the array's entry. -/
theorem out11_spec (c : Dev nD) (t : Fin cfg0.N) (p : Fin 1024) (q : Fin 256) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q)
      = inner (m ((c : Thread nD τ).loc main_arg0)) (m ((c : Thread nD τ).loc main_arg1)) (m ((c : Thread nD τ).loc main_arg2)) (m ((c : Thread nD τ).loc main_arg3))
        (ix2 (⟨t.val % 32 * 1024 + p.val, by omega⟩ : Fin 32768) (⟨t.val / 32 * 256 + q.val, by have : t.val < 512 := t.isLt; omega⟩ : Fin 4096)) := by
  rw [out11_at, taps1_at, taps2_at]
  rfl

theorem final0 (c : Dev nD) : (dats m 0 c).arrAt 11 cfg0.N = spec0 m c := by
  refine (dats m 0 c).arrAt_eq_of_covers 11 _ (by decide +kernel) fun t hf y => ?_
  blk_simp
  rw [after0_11, eq_ix2 y]
  refine (out11_spec m c t (y 0) (y 1)).trans (congrArg (spec0 m c) ?_)
  symm
  blk_ext [idx t]

/-- What the body leaves at an entry of its block is the array's entry. -/
theorem out12_spec (c : Dev nD) (t : Fin cfg0.N) (p : Fin 1024) (q : Fin 256) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 p q)
      = outer (m ((c : Thread nD τ).loc main_arg0)) (m ((c : Thread nD τ).loc main_arg1)) (m ((c : Thread nD τ).loc main_arg2)) (m ((c : Thread nD τ).loc main_arg3))
        (ix2 (⟨t.val % 32 * 1024 + p.val, by omega⟩ : Fin 32768) (⟨t.val / 32 * 256 + q.val, by have : t.val < 512 := t.isLt; omega⟩ : Fin 4096)) := by
  rw [out12_at, taps0_at, mm_w3]
  rfl

theorem final1 (c : Dev nD) : (dats m 0 c).arrAt 12 cfg0.N = spec1 m c := by
  refine (dats m 0 c).arrAt_eq_of_covers 12 _ (by decide +kernel) fun t hf y => ?_
  blk_simp
  rw [after0_12, eq_ix2 y]
  refine (out12_spec m c t (y 0) (y 1)).trans (congrArg (spec1 m c) ?_)
  symm
  blk_ext [idx t]

theorem run (g : Dev nD → PrngReg) : θ_run defs (onTc (τ := τ) (main (F := Ideal))) ⟨m, fun _ => 0, g⟩ fun r => ∀ c : Dev nD,
      r.2.mem ((c : Thread nD τ).loc main_v3_0) = spec0 m c
      ∧ r.2.mem ((c : Thread nD τ).loc main_v3_1) = spec1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final0 m c), (h c).2.1.trans (final1 m c), (h c).2.2⟩) (Value.run_blocks m g)

end Cert.HyenaIdeal.Hand

end
-- ==== Proof.HyenaRef.lean ====
module

public import proofs.«01_k».proof.Defs
public import proofs.«01_k».proof.Proof.Gen.HyenaIdeal.Value
public import proofs.«01_k».proof.Proof.Gen.HyenaRefIdeal.Run
public import proofs.«01_k».proof.Proof.Hyena
import Idealize.ShloMosaic.Lib.KernelVsHost
public import Idealize.ShloMosaic.Lib.Pipeline.ValueKit
public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem

namespace Cert.Proof.Hyena

open Cert.HyenaIdeal.Hand

theorem sitofp_nought : (FloatOps.sitofp .f32 0#32 : Ideal .f32) = (0 : EReal) := by
  show ((((0#32 : BitVec 32).toInt : ℤ) : ℝ) : EReal) = 0
  simp

/-- One plus an exponential is not nought. -/
theorem one_add_exp_ne (x : EReal) : 1 + Ideal.exp x ≠ 0 := by
  induction x with
  | bot => simp
  | top => rw [Ideal.exp_top, EReal.add_top_of_ne_bot (show (1 : EReal) ≠ ⊥ from EReal.coe_ne_bot 1)]; exact EReal.top_ne_zero
  | coe r =>
    have : 0 < 1 + Real.exp r := by positivity
    simp only [Ideal.exp_coe]
    exact_mod_cast this.ne'

/-- Token `b` of sequence `a` of `u` against column `j` of `w`. -/
abbrev pa (u : FVec Ideal Cert.HyenaIdeal.S8x4096x4096 .bf16) (w : FVec Ideal Cert.HyenaIdeal.S4096x16384 .f32) (a : Fin 8) (b : Fin 4096) (j : Fin 16384) : EReal :=
  (∑ k : Fin 4096, (u (ix3 a b k) : EReal) * (w (ix2 k j) : EReal) : EReal)

theorem pa_eq (u : FVec Ideal Cert.HyenaIdeal.S8x4096x4096 .bf16) (w : FVec Ideal Cert.HyenaIdeal.S4096x16384 .f32) (s : Nat) (hs : s < 32768)
    (a b : Nat) (ha : a < 8) (hb : b < 4096) (j : Fin 16384) (ea : a = s / 4096) (eb : b = s % 4096) : pa u w ⟨a, ha⟩ ⟨b, hb⟩ j = pr u w ⟨s, hs⟩ j := by
  subst ea eb
  rfl

theorem gate_at (g : EReal) : g * Ideal.div 1 (1 + Ideal.exp (-g)) = silu g := by
  simp only [silu, Ideal.div, if_neg (one_add_exp_ne (-g)), one_mul]

section Stages

open Cert.HyenaRefIdeal Cert.HyenaRefIdeal.Gen

/-- The reference's product. -/
def prod (u : FVec Ideal S8x4096x4096 .bf16) (w : FVec Ideal S4096x16384 .f32) : FVec Ideal S8x4096x16384 .f32 :=
  Host.dotGeneral dot_S8x4096x4096_S4096x16384_S8x4096x16384_2_0_01_1_n_n none (extf .f32 u bitsLt_bf16_f32) w

/-- Its first three parts, cut in blocks of 64 tokens and padded. -/
def padded (u : FVec Ideal S8x4096x4096 .bf16) (w : FVec Ideal S4096x16384 .f32) : FVec Ideal S512x66x12288 .f32 :=
  pad S512x66x12288 ![0, 1, 0] ![0, 1, 0] ![0, 0, 0] (shapeCast _ (extractStridedSlice S8x4096x12288 ![0, 0, 0] (prod u w) slices_S8x4096x16384_S8x4096x12288_0_0_0) shapeCasts_S8x4096x12288_S512x64x12288) (sitofp .f32 (constantI S_ 32 0#32)) pads_S512x64x12288_S512x66x12288_000_110_000 h_S_

/-- Tap 0's weight. -/
def weight0 (cw : FVec Ideal S3x12288 .f32) : FVec Ideal S512x64x12288 .f32 :=
  broadcastInDim S512x64x12288 ![0, 1, 2] bcast_S1x1x12288_S512x64x12288_0_1_2 (broadcastInDim S1x1x12288 ![2] bcast_S12288_S1x1x12288_2 (shapeCast _ (extractStridedSlice S1x12288 ![0, 0] cw slices_S3x12288_S1x12288_0_0) shapeCasts_S1x12288_S12288))

/-- Tap 1's weight. -/
def weight1 (cw : FVec Ideal S3x12288 .f32) : FVec Ideal S512x64x12288 .f32 :=
  broadcastInDim S512x64x12288 ![0, 1, 2] bcast_S1x1x12288_S512x64x12288_0_1_2 (broadcastInDim S1x1x12288 ![2] bcast_S12288_S1x1x12288_2 (shapeCast _ (extractStridedSlice S1x12288 ![1, 0] cw slices_S3x12288_S1x12288_1_0) shapeCasts_S1x12288_S12288))

/-- Tap 2's weight. -/
def weight2 (cw : FVec Ideal S3x12288 .f32) : FVec Ideal S512x64x12288 .f32 :=
  broadcastInDim S512x64x12288 ![0, 1, 2] bcast_S1x1x12288_S512x64x12288_0_1_2 (broadcastInDim S1x1x12288 ![2] bcast_S12288_S1x1x12288_2 (shapeCast _ (extractStridedSlice S1x12288 ![2, 0] cw slices_S3x12288_S1x12288_2_0) shapeCasts_S1x12288_S12288))

/-- The bias. -/
def bias (cb : FVec Ideal S12288 .f32) : FVec Ideal S8x4096x12288 .f32 :=
  broadcastInDim S8x4096x12288 ![0, 1, 2] bcast_S1x1x12288_S8x4096x12288_0_1_2 (broadcastInDim S1x1x12288 ![2] bcast_S12288_S1x1x12288_2 cb)

/-- The three taps. -/
def taps3 (u : FVec Ideal S8x4096x4096 .bf16) (w : FVec Ideal S4096x16384 .f32) (cw : FVec Ideal S3x12288 .f32) : FVec Ideal S512x64x12288 .f32 :=
  addf (addf (mulf (extractStridedSlice S512x64x12288 ![0, 0, 0] (padded u w) slices_S512x66x12288_S512x64x12288_0_0_0) (weight0 cw)) (mulf (extractStridedSlice S512x64x12288 ![0, 1, 0] (padded u w) slices_S512x66x12288_S512x64x12288_0_1_0) (weight1 cw))) (mulf (extractStridedSlice S512x64x12288 ![0, 2, 0] (padded u w) slices_S512x66x12288_S512x64x12288_0_2_0) (weight2 cw))

/-- The convolution with its bias. -/
def conv (u : FVec Ideal S8x4096x4096 .bf16) (w : FVec Ideal S4096x16384 .f32) (cw : FVec Ideal S3x12288 .f32) (cb : FVec Ideal S12288 .f32) : FVec Ideal S8x4096x12288 .f32 :=
  addf (shapeCast _ (taps3 u w cw) shapeCasts_S512x64x12288_S8x4096x12288) (bias cb)

/-- The first result. -/
def first (u : FVec Ideal S8x4096x4096 .bf16) (w : FVec Ideal S4096x16384 .f32) (cw : FVec Ideal S3x12288 .f32) (cb : FVec Ideal S12288 .f32) : FVec Ideal S32768x4096 .f32 :=
  shapeCast _ (mulf (extractStridedSlice S8x4096x4096 ![0, 0, 8192] (conv u w cw cb) slices_S8x4096x12288_S8x4096x4096_0_0_8192) (extractStridedSlice S8x4096x4096 ![0, 0, 4096] (conv u w cw cb) slices_S8x4096x12288_S8x4096x4096_0_0_4096)) shapeCasts_S8x4096x4096_S32768x4096

/-- The gate's part of the product. -/
def gated (u : FVec Ideal S8x4096x4096 .bf16) (w : FVec Ideal S4096x16384 .f32) : FVec Ideal S8x4096x4096 .f32 :=
  extractStridedSlice S8x4096x4096 ![0, 0, 12288] (prod u w) slices_S8x4096x16384_S8x4096x4096_0_0_12288

/-- The gate. -/
def gate (x : FVec Ideal S8x4096x4096 .f32) : FVec Ideal S8x4096x4096 .f32 :=
  mulf x (Host.divf (broadcastInDim S8x4096x4096 ![] bcast_S_S8x4096x4096 (constant S_ .f32 0x3F800000#32)) (addf (broadcastInDim S8x4096x4096 ![] bcast_S_S8x4096x4096 (constant S_ .f32 0x3F800000#32)) (Host.exp (Host.negf x))))

/-- The second result. -/
def second (u : FVec Ideal S8x4096x4096 .bf16) (w : FVec Ideal S4096x16384 .f32) (cw : FVec Ideal S3x12288 .f32) (cb : FVec Ideal S12288 .f32) : FVec Ideal S32768x4096 .f32 :=
  shapeCast _ (mulf (extractStridedSlice S8x4096x4096 ![0, 0, 0] (conv u w cw cb) slices_S8x4096x12288_S8x4096x4096_0_0_0) (gate (gated u w))) shapeCasts_S8x4096x4096_S32768x4096

theorem prod_at (u : FVec Ideal S8x4096x4096 .bf16) (w : FVec Ideal S4096x16384 .f32) (a : Fin 8) (b : Fin 4096) (j : Fin 16384) : prod u w (ix3 a b j) = pa u w a b j := by
  unfold prod
  clean_types
  pointwise

theorem weight0_at (cw : FVec Ideal S3x12288 .f32) (n : Fin 512) (s : Fin 64) (j : Fin 12288) : weight0 cw (ix3 n s j) = cw (ix2 0 j) := by
  unfold weight0
  clean_types
  pointwise

theorem weight1_at (cw : FVec Ideal S3x12288 .f32) (n : Fin 512) (s : Fin 64) (j : Fin 12288) : weight1 cw (ix3 n s j) = cw (ix2 1 j) := by
  unfold weight1
  clean_types
  pointwise

theorem weight2_at (cw : FVec Ideal S3x12288 .f32) (n : Fin 512) (s : Fin 64) (j : Fin 12288) : weight2 cw (ix3 n s j) = cw (ix2 2 j) := by
  unfold weight2
  clean_types
  pointwise

theorem bias_at (cb : FVec Ideal S12288 .f32) (a : Fin 8) (b : Fin 4096) (j : Fin 12288) : bias cb (ix3 a b j) = cb (ix1 j) := by
  unfold bias
  clean_types
  pointwise

theorem padded_at (u : FVec Ideal S8x4096x4096 .bf16) (w : FVec Ideal S4096x16384 .f32) (n : Fin 512) (s : Fin 66) (j : Fin 12288) :
    padded u w (ix3 n s j) = (if h : 1 ≤ s.val ∧ s.val - 1 < 64 then pa u w ⟨n.val / 64, by omega⟩ ⟨n.val % 64 * 64 + (s.val - 1), by omega⟩ ⟨j.val, by omega⟩
      else (FloatOps.sitofp .f32 0#32 : Ideal .f32) : EReal) := by
  generalize hR : pa = R
  unfold padded
  clean_types
  pointwise
  simp only [prod_at, hR]

theorem taps3_at (u : FVec Ideal S8x4096x4096 .bf16) (w : FVec Ideal S4096x16384 .f32) (cw : FVec Ideal S3x12288 .f32) (n : Fin 512) (s : Fin 64) (j : Fin 12288) : taps3 u w cw (ix3 n s j)
    = (padded u w (ix3 n ⟨s.val, by omega⟩ j) * cw (ix2 0 j) + padded u w (ix3 n ⟨1 + s.val, by omega⟩ j) * cw (ix2 1 j)
      + padded u w (ix3 n ⟨2 + s.val, by omega⟩ j) * cw (ix2 2 j) : EReal) := by
  rw [← weight0_at cw n s j, ← weight1_at cw n s j, ← weight2_at cw n s j]
  unfold taps3
  clean_types
  pointwise

/-- A token's position, counted through blocks of 64 or through sequences of 4096. -/
theorem pos_join (a b j n : Nat) : ((a * 64 + b / 64) * 64 + b % 64) * n + j = (a * 4096 + b) * n + j := by
  have e : (a * 64 + b / 64) * 64 + b % 64 = a * 4096 + b := by omega
  rw [e]

/-- Blocks of 64 tokens laid out as sequences of 4096, at any width. -/
theorem cast_at {q : Nat} (x : (⟨3, ![512, 64, q]⟩ : Shape).Idx → EReal) (h : (⟨3, ![512, 64, q]⟩ : Shape).ShapeCasts ⟨3, ![8, 4096, q]⟩)
    (a : Fin 8) (b : Fin 4096) (j : Fin q) :
    shapeCast ⟨3, ![8, 4096, q]⟩ x h (ix3 a b j) = x (ix3 (⟨a.val * 64 + b.val / 64, by omega⟩ : Fin 512) (⟨b.val % 64, by omega⟩ : Fin 64) j) := by
  refine shapeCast_apply x h _ _ ?_
  rw [Shape.rowMajor_val_three, Shape.rowMajor_val_three]
  exact pos_join a.val b.val j.val q

theorem stage_conv_at (u : FVec Ideal S8x4096x4096 .bf16) (w : FVec Ideal S4096x16384 .f32) (cw : FVec Ideal S3x12288 .f32) (cb : FVec Ideal S12288 .f32) (a : Fin 8) (b : Fin 4096) (j : Fin 12288) :
    conv u w cw cb (ix3 a b j) = (taps3 u w cw (ix3 (⟨a.val * 64 + b.val / 64, by omega⟩ : Fin 512) (⟨b.val % 64, by omega⟩ : Fin 64) j) + cb (ix1 j) : EReal) := by
  unfold conv
  rw [addf_apply, bias_at]
  have e := cast_at (taps3 u w cw) shapeCasts_S512x64x12288_S8x4096x12288 a b j
  exact congrArg (fun z : EReal => z + cb (ix1 j)) e

theorem conv_taps (u : FVec Ideal S8x4096x4096 .bf16) (w : FVec Ideal S4096x16384 .f32) (cw : FVec Ideal S3x12288 .f32) (cb : FVec Ideal S12288 .f32) (r : Fin 32768) (j : Fin 12288) :
    conv u w cw cb (ix3 (⟨r.val / 4096, by omega⟩ : Fin 8) (⟨r.val % 4096, by omega⟩ : Fin 4096) j) = taps u w cw cb r j := by
  have hr := r.isLt
  rw [stage_conv_at, taps3_at]
  simp only [padded_at, sitofp_nought]
  unfold taps
  have cur (k : Fin 16384) := pa_eq u w (r.val) (by omega) ((r.val / 4096 * 64 + r.val % 4096 / 64) / 64) ((r.val / 4096 * 64 + r.val % 4096 / 64) % 64 * 64 + (1 + r.val % 4096 % 64 - 1)) (by omega) (by omega) k (by omega) (by omega)
  rw [dif_pos (show 1 ≤ 1 + r.val % 4096 % 64 ∧ 1 + r.val % 4096 % 64 - 1 < 64 by omega), cur]
  by_cases h0 : r.val % 64 = 0
  · have h1 : ¬ r.val % 64 = 63 := by omega
    have next (k : Fin 16384) := pa_eq u w (r.val + 1) (by omega) ((r.val / 4096 * 64 + r.val % 4096 / 64) / 64) ((r.val / 4096 * 64 + r.val % 4096 / 64) % 64 * 64 + (2 + r.val % 4096 % 64 - 1)) (by omega) (by omega) k (by omega) (by omega)
    rw [if_pos h0, dif_neg h1, dif_neg (show ¬ (1 ≤ r.val % 4096 % 64 ∧ r.val % 4096 % 64 - 1 < 64) by omega), dif_pos (show 1 ≤ 2 + r.val % 4096 % 64 ∧ 2 + r.val % 4096 % 64 - 1 < 64 by omega), next]
  · have prev (k : Fin 16384) := pa_eq u w (r.val - 1) (by omega) ((r.val / 4096 * 64 + r.val % 4096 / 64) / 64) ((r.val / 4096 * 64 + r.val % 4096 / 64) % 64 * 64 + (r.val % 4096 % 64 - 1)) (by omega) (by omega) k (by omega) (by omega)
    rw [if_neg h0, dif_pos (show 1 ≤ r.val % 4096 % 64 ∧ r.val % 4096 % 64 - 1 < 64 by omega), prev]
    by_cases h1 : r.val % 64 = 63
    · rw [dif_pos h1, dif_neg (show ¬ (1 ≤ 2 + r.val % 4096 % 64 ∧ 2 + r.val % 4096 % 64 - 1 < 64) by omega)]
    · have next (k : Fin 16384) := pa_eq u w (r.val + 1) (by omega) ((r.val / 4096 * 64 + r.val % 4096 / 64) / 64) ((r.val / 4096 * 64 + r.val % 4096 / 64) % 64 * 64 + (2 + r.val % 4096 % 64 - 1)) (by omega) (by omega) k (by omega) (by omega)
      rw [dif_neg h1, dif_pos (show 1 ≤ 2 + r.val % 4096 % 64 ∧ 2 + r.val % 4096 % 64 - 1 < 64 by omega), next]

/-- Sequences of 4096 tokens laid out as rows, at any width. -/
theorem flat_at {q : Nat} (x : (⟨3, ![8, 4096, q]⟩ : Shape).Idx → EReal) (h : (⟨3, ![8, 4096, q]⟩ : Shape).ShapeCasts ⟨2, ![32768, q]⟩)
    (r : Fin 32768) (j : Fin q) :
    shapeCast ⟨2, ![32768, q]⟩ x h (ix2 r j) = x (ix3 (⟨r.val / 4096, by omega⟩ : Fin 8) (⟨r.val % 4096, by omega⟩ : Fin 4096) j) := by
  refine shapeCast_apply x h _ _ ?_
  rw [Shape.rowMajor_val_three, Shape.rowMajor_val_two]
  exact congrArg (fun z => z * q + j.val) (show r.val / 4096 * 4096 + r.val % 4096 = r.val by omega)

theorem part_at {o : Nat} (x : FVec Ideal S8x4096x12288 .f32) (a : Fin 8) (b : Fin 4096) (j : Fin 4096) (h : S8x4096x12288.Slices ![0, 0, o] S8x4096x4096) (ho : o + j.val < 12288) :
    extractStridedSlice S8x4096x4096 ![0, 0, o] x h (ix3 a b j) = x (ix3 a b ⟨o + j.val, ho⟩) := by
  pointwise

theorem first_step (u : FVec Ideal S8x4096x4096 .bf16) (w : FVec Ideal S4096x16384 .f32) (cw : FVec Ideal S3x12288 .f32) (cb : FVec Ideal S12288 .f32) (r : Fin 32768) (j : Fin 4096) : first u w cw cb (ix2 r j)
    = (conv u w cw cb (ix3 (⟨r.val / 4096, by omega⟩ : Fin 8) (⟨r.val % 4096, by omega⟩ : Fin 4096) (⟨8192 + j.val, by omega⟩ : Fin 12288))
      * conv u w cw cb (ix3 (⟨r.val / 4096, by omega⟩ : Fin 8) (⟨r.val % 4096, by omega⟩ : Fin 4096) (⟨4096 + j.val, by omega⟩ : Fin 12288)) : EReal) := by
  unfold first
  refine (flat_at _ shapeCasts_S8x4096x4096_S32768x4096 r j).trans ?_
  rw [mulf_apply]
  exact congrArg₂ (fun a b : EReal => a * b) (part_at _ _ _ j _ _) (part_at _ _ _ j _ _)

theorem gated_at (u : FVec Ideal S8x4096x4096 .bf16) (w : FVec Ideal S4096x16384 .f32) (a : Fin 8) (b : Fin 4096) (j : Fin 4096) : gated u w (ix3 a b j) = pa u w a b ⟨12288 + j.val, by omega⟩ := by
  rw [← prod_at]
  unfold gated
  clean_types
  pointwise

theorem gate_entry (x : FVec Ideal S8x4096x4096 .f32) (a : Fin 8) (b : Fin 4096) (j : Fin 4096) : gate x (ix3 a b j) = silu (x (ix3 a b j)) := by
  rw [← gate_at]
  unfold gate
  clean_types
  pointwise

theorem lead_at (x : FVec Ideal S8x4096x12288 .f32) (a : Fin 8) (b : Fin 4096) (j : Fin 4096) (h : S8x4096x12288.Slices ![0, 0, 0] S8x4096x4096) :
    extractStridedSlice S8x4096x4096 ![0, 0, 0] x h (ix3 a b j) = x (ix3 a b ⟨j.val, by omega⟩) := by
  pointwise

theorem second_step (u : FVec Ideal S8x4096x4096 .bf16) (w : FVec Ideal S4096x16384 .f32) (cw : FVec Ideal S3x12288 .f32) (cb : FVec Ideal S12288 .f32) (r : Fin 32768) (j : Fin 4096) : second u w cw cb (ix2 r j)
    = (conv u w cw cb (ix3 (⟨r.val / 4096, by omega⟩ : Fin 8) (⟨r.val % 4096, by omega⟩ : Fin 4096) (⟨j.val, by omega⟩ : Fin 12288))
      * silu (pa u w ⟨r.val / 4096, by omega⟩ ⟨r.val % 4096, by omega⟩ ⟨12288 + j.val, by omega⟩) : EReal) := by
  unfold second
  refine (flat_at _ shapeCasts_S8x4096x4096_S32768x4096 r j).trans ?_
  rw [mulf_apply, gate_entry, gated_at]
  exact congrArg (fun a : EReal => a * _) (lead_at _ _ _ j _)

theorem first_at (u : FVec Ideal S8x4096x4096 .bf16) (w : FVec Ideal S4096x16384 .f32) (cw : FVec Ideal S3x12288 .f32) (cb : FVec Ideal S12288 .f32) (r : Fin 32768) (j : Fin 4096) : first u w cw cb (ix2 r j) = inner u w cw cb (ix2 r j) := by
  rw [first_step, conv_taps, conv_taps]
  rfl

theorem second_at (u : FVec Ideal S8x4096x4096 .bf16) (w : FVec Ideal S4096x16384 .f32) (cw : FVec Ideal S3x12288 .f32) (cb : FVec Ideal S12288 .f32) (r : Fin 32768) (j : Fin 4096) : second u w cw cb (ix2 r j) = outer u w cw cb (ix2 r j) := by
  rw [second_step, conv_taps]
  rfl

end Stages

theorem ref_run (m : (ℓ : Loc Cert.HyenaRefIdeal.nD Cert.HyenaRefIdeal.τ Cert.HyenaRefIdeal.sig) → Buf (Elt Ideal) ℓ) (g : Dev Cert.HyenaRefIdeal.nD → PrngReg) :
    θ_run Cert.HyenaRefIdeal.defs (onTc (τ := Cert.HyenaRefIdeal.τ) (Cert.HyenaRefIdeal.main (F := Ideal))) ⟨m, fun _ => 0, g⟩ fun r => ∀ c : Dev Cert.HyenaRefIdeal.nD,
      r.2.mem ((c.tc : Thread Cert.HyenaRefIdeal.nD Cert.HyenaRefIdeal.τ).loc Cert.HyenaRefIdeal.main_v35) = inner (m ((c.tc : Thread Cert.HyenaRefIdeal.nD Cert.HyenaRefIdeal.τ).loc Cert.HyenaRefIdeal.main_arg0)) (m ((c.tc : Thread Cert.HyenaRefIdeal.nD Cert.HyenaRefIdeal.τ).loc Cert.HyenaRefIdeal.main_arg1)) (m ((c.tc : Thread Cert.HyenaRefIdeal.nD Cert.HyenaRefIdeal.τ).loc Cert.HyenaRefIdeal.main_arg2)) (m ((c.tc : Thread Cert.HyenaRefIdeal.nD Cert.HyenaRefIdeal.τ).loc Cert.HyenaRefIdeal.main_arg3))
      ∧ r.2.mem ((c.tc : Thread Cert.HyenaRefIdeal.nD Cert.HyenaRefIdeal.τ).loc Cert.HyenaRefIdeal.main_v37) = outer (m ((c.tc : Thread Cert.HyenaRefIdeal.nD Cert.HyenaRefIdeal.τ).loc Cert.HyenaRefIdeal.main_arg0)) (m ((c.tc : Thread Cert.HyenaRefIdeal.nD Cert.HyenaRefIdeal.τ).loc Cert.HyenaRefIdeal.main_arg1)) (m ((c.tc : Thread Cert.HyenaRefIdeal.nD Cert.HyenaRefIdeal.τ).loc Cert.HyenaRefIdeal.main_arg2)) (m ((c.tc : Thread Cert.HyenaRefIdeal.nD Cert.HyenaRefIdeal.τ).loc Cert.HyenaRefIdeal.main_arg3))
      ∧ r.2.mem ((c.tc : Thread Cert.HyenaRefIdeal.nD Cert.HyenaRefIdeal.τ).loc Cert.HyenaRefIdeal.main_arg0) = m ((c.tc : Thread Cert.HyenaRefIdeal.nD Cert.HyenaRefIdeal.τ).loc Cert.HyenaRefIdeal.main_arg0)
      ∧ r.2.mem ((c.tc : Thread Cert.HyenaRefIdeal.nD Cert.HyenaRefIdeal.τ).loc Cert.HyenaRefIdeal.main_arg1) = m ((c.tc : Thread Cert.HyenaRefIdeal.nD Cert.HyenaRefIdeal.τ).loc Cert.HyenaRefIdeal.main_arg1)
      ∧ r.2.mem ((c.tc : Thread Cert.HyenaRefIdeal.nD Cert.HyenaRefIdeal.τ).loc Cert.HyenaRefIdeal.main_arg2) = m ((c.tc : Thread Cert.HyenaRefIdeal.nD Cert.HyenaRefIdeal.τ).loc Cert.HyenaRefIdeal.main_arg2)
      ∧ r.2.mem ((c.tc : Thread Cert.HyenaRefIdeal.nD Cert.HyenaRefIdeal.τ).loc Cert.HyenaRefIdeal.main_arg3) = m ((c.tc : Thread Cert.HyenaRefIdeal.nD Cert.HyenaRefIdeal.τ).loc Cert.HyenaRefIdeal.main_arg3) := by
  refine (θ_run Cert.HyenaRefIdeal.defs _ _).mono (fun _ h c => ⟨(h c).1.trans ?_, (h c).2.1.trans ?_, (h c).2.2⟩) (Cert.HyenaRefIdeal.Value.run (F := Ideal) m g)
  · refine Eq.trans (b := first (m ((c.tc : Thread Cert.HyenaRefIdeal.nD Cert.HyenaRefIdeal.τ).loc Cert.HyenaRefIdeal.main_arg0)) (m ((c.tc : Thread Cert.HyenaRefIdeal.nD Cert.HyenaRefIdeal.τ).loc Cert.HyenaRefIdeal.main_arg1)) (m ((c.tc : Thread Cert.HyenaRefIdeal.nD Cert.HyenaRefIdeal.τ).loc Cert.HyenaRefIdeal.main_arg2)) (m ((c.tc : Thread Cert.HyenaRefIdeal.nD Cert.HyenaRefIdeal.τ).loc Cert.HyenaRefIdeal.main_arg3))) rfl ?_
    funext i
    rw [eq_ix2 i]
    exact first_at _ _ _ _ (i 0) (i 1)
  · refine Eq.trans (b := second (m ((c.tc : Thread Cert.HyenaRefIdeal.nD Cert.HyenaRefIdeal.τ).loc Cert.HyenaRefIdeal.main_arg0)) (m ((c.tc : Thread Cert.HyenaRefIdeal.nD Cert.HyenaRefIdeal.τ).loc Cert.HyenaRefIdeal.main_arg1)) (m ((c.tc : Thread Cert.HyenaRefIdeal.nD Cert.HyenaRefIdeal.τ).loc Cert.HyenaRefIdeal.main_arg2)) (m ((c.tc : Thread Cert.HyenaRefIdeal.nD Cert.HyenaRefIdeal.τ).loc Cert.HyenaRefIdeal.main_arg3))) rfl ?_
    funext i
    rw [eq_ix2 i]
    exact second_at _ _ _ _ (i 0) (i 1)

/-- The Hyena layer's kernel and its reference leave the same two arrays. -/
theorem algebraic : Cert.algebraic_HyenaIdeal_HyenaRefIdeal := by
  intro m g m' g' _ hagree
  refine ⟨fun c => Cert.HyenaIdeal.Hand.spec0 m c, fun c => Cert.HyenaIdeal.Hand.spec1 m c, Cert.HyenaIdeal.Hand.run m g, ?_⟩
  refine (θ_run Cert.HyenaRefIdeal.defs _ _).mono (fun _ h c => ⟨(h c).1.trans ?_, (h c).2.1.trans ?_, (h c).2.2⟩) (ref_run m' g')
  · rw [(hagree c).1, (hagree c).2.1, (hagree c).2.2.1, (hagree c).2.2.2]
  · rw [(hagree c).1, (hagree c).2.1, (hagree c).2.2.1, (hagree c).2.2.2]

end Cert.Proof.Hyena

end
-- ==== Proof.GlaIn.lean ====
module

public import proofs.«01_k».proof.Defs
public import proofs.«01_k».proof.Proof.Gen.GlaInIdeal.Value
public import proofs.«01_k».proof.Proof.Gen.GlaInRefIdeal.Run
public import Idealize.ShloMosaic.Lib.Pipeline.ValueKit

public import Idealize.ShloMosaic.Lib.Pointwise
public import Idealize.ShloMosaic.Lib.Tactic.CleanTypes

@[expose] public section

set_option maxRecDepth 16384
set_option maxHeartbeats 100000

noncomputable section

open Idealize.ShloMosaic Idealize.ShloMosaic.TcCoe Idealize.SL.Sem
open Idealize.ShloMosaic.Pipeline (Dat)

namespace Cert.GlaInIdeal.Hand

open Cert.GlaInIdeal Cert.GlaInIdeal.Gen

variable (m : (ℓ : Loc nD τ sig) → Buf (Elt Ideal) ℓ) (ρ : Dev nD → PrngReg)

/-- The projection: row of `u` (its two leading axes read as one) times column of `w`. -/
def proj (u : FVec Ideal S8x4096x4096 .bf16) (w : FVec Ideal S1x4096x12288 .f32) : FVec Ideal S32768x12288 .f32 :=
  fun i => (∑ k : Fin 4096, (u (ix3 ⟨(i 0).val / 4096, by have : (i 0).val < 32768 := (i 0).isLt; omega⟩ ⟨(i 0).val % 4096, Nat.mod_lt _ (by decide)⟩ k) : EReal)
    * (w (ix3 0 k (i 1)) : EReal) : EReal)

/-- What the output array is shown to hold. -/
abbrev spec (c : Dev nD) : Buf (Elt Ideal) ((c : Thread nD τ).loc main_v3) :=
  proj (m ((c : Thread nD τ).loc main_arg0)) (m ((c : Thread nD τ).loc main_arg1))

theorem V_u (c : Dev nD) (r : Fin 32768) (k : Fin 4096) : V m c main_v0 (ix2 r k)
    = m ((c : Thread nD τ).loc main_arg0) (ix3 ⟨r.val / 4096, by omega⟩ ⟨r.val % 4096, by omega⟩ k) := by
  entry_read
  pointwise

theorem V_w (c : Dev nD) (k : Fin 4096) (j : Fin 12288) : V m c main_v2 (ix2 k j)
    = m ((c : Thread nD τ).loc main_arg1) (ix3 0 k j) := by
  entry_read
  clean_types
  pointwise

/-- The block of each window at a point: the grid runs over 4 column blocks, and over 32 row blocks within each. -/
theorem idx (t : Fin cfg0.N) : win0_0.index t = ![t.val % 32, 0] ∧ win0_1.index t = ![0, t.val / 32]
    ∧ win0_2.index t = ![t.val % 32, t.val / 32] :=
  (by decide +kernel : ∀ t : Fin cfg0.N, win0_0.index t = ![t.val % 32, 0] ∧ win0_1.index t = ![0, t.val / 32]
    ∧ win0_2.index t = ![t.val % 32, t.val / 32]) t

theorem blk_u (c : Dev nD) (t : Fin cfg0.N) (r : Fin 1024) (k : Fin 4096) : iblk m c 0 t (ix2 r k)
    = m ((c : Thread nD τ).loc main_arg0) (ix3 ⟨(t.val % 32 * 1024 + r.val) / 4096, by omega⟩ ⟨(t.val % 32 * 1024 + r.val) % 4096, by omega⟩ k) := by
  have e : (win0_0.blk t).view.emb (ix2 r k) = ix2 (⟨t.val % 32 * 1024 + r.val, by omega⟩ : Fin 32768) k := by blk_ext [idx t]
  blk_simp [iblk]
  rw [e]
  exact V_u m c _ k

theorem blk_w (c : Dev nD) (t : Fin cfg0.N) (k : Fin 4096) (j : Fin 1024) : iblk m c 1 t (ix2 k j)
    = m ((c : Thread nD τ).loc main_arg1) (ix3 0 k ⟨t.val / 32 * 1024 + j.val, by have : t.val < 384 := t.isLt; omega⟩) := by
  have e : (win0_1.blk t).view.emb (ix2 k j) = ix2 k (⟨t.val / 32 * 1024 + j.val, by have : t.val < 384 := t.isLt; omega⟩ : Fin 12288) := by blk_ext [idx t]
  blk_simp [iblk]
  rw [e]
  exact V_w m c k _

theorem final (c : Dev nD) : (dats m 0 c).arrAt 2 cfg0.N = spec m c := by
  refine (dats m 0 c).arrAt_eq_of_covers 2 _ (by decide +kernel) fun t hf y => ?_
  blk_simp
  rw [after0_2]
  frame_out
  unfold_payloads
  pointwise [proj]
  reads_congr
  · refine (blk_u m c t (y 0) k).trans ?_
    blk_ext [idx t]
  · refine (blk_w m c t k (y 1)).trans ?_
    blk_ext [idx t]

theorem run (g : Dev nD → PrngReg) : θ_run defs (onTc (τ := τ) (main (F := Ideal))) ⟨m, fun _ => 0, g⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m g)

end Cert.GlaInIdeal.Hand

namespace Cert.Proof.GlaIn

/-- The projection's kernel and its reference leave the same array. -/
theorem algebraic : Cert.algebraic_GlaInIdeal_GlaInRefIdeal := by
  intro m g m' g' _ hagree
  refine ⟨fun c => Cert.GlaInIdeal.Hand.spec m c, Cert.GlaInIdeal.Hand.run m g, ?_⟩
  refine (θ_run Cert.GlaInRefIdeal.defs _ _).mono (fun _ h c => ⟨(h c).1.trans ?_, (h c).2⟩)
    (Cert.GlaInRefIdeal.Value.run (F := Ideal) m' g')
  rw [(hagree c).1, (hagree c).2]
  funext i
  clean_types
  pointwise [Cert.GlaInIdeal.Hand.proj]

end Cert.Proof.GlaIn

end
-- ==== Proof.Out.lean ====
module

public import proofs.«01_k».proof.Defs
public import proofs.«01_k».proof.Proof.Gen.OutIdeal.Value
public import proofs.«01_k».proof.Proof.Gen.OutRefIdeal.Run
public import Idealize.ShloMosaic.Lib.Pipeline.ValueKit

public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.OutIdeal.Hand

open Cert.OutIdeal Cert.OutIdeal.Gen

variable (m : (ℓ : Loc nD τ sig) → Buf (Elt Ideal) ℓ) (ρ : Dev nD → PrngReg)

/-- The projection: row of `z` times column of `w`. -/
def proj (z : FVec Ideal S32768x4096 .bf16) (w : FVec Ideal S4096x4096 .f32) : FVec Ideal S32768x4096 .bf16 :=
  fun i => (∑ k : Fin 4096, (z (ix2 (i 0) k) : EReal) * (w (ix2 k (i 1)) : EReal) : EReal)

/-- What the output array is shown to hold. -/
abbrev spec (c : Dev nD) : Buf (Elt Ideal) ((c : Thread nD τ).loc main_v1) :=
  proj (m ((c : Thread nD τ).loc main_arg0)) (m ((c : Thread nD τ).loc main_arg1))

/-- The block of each window at a point: the grid runs over 4 column blocks, and over 32 row blocks within each. -/
theorem idx (t : Fin cfg0.N) : win0_0.index t = ![t.val % 32, 0] ∧ win0_1.index t = ![0, t.val / 32]
    ∧ win0_2.index t = ![t.val % 32, t.val / 32] :=
  (by decide +kernel : ∀ t : Fin cfg0.N, win0_0.index t = ![t.val % 32, 0] ∧ win0_1.index t = ![0, t.val / 32]
    ∧ win0_2.index t = ![t.val % 32, t.val / 32]) t

theorem final (c : Dev nD) : (dats m 0 c).arrAt 2 cfg0.N = spec m c := by
  refine (dats m 0 c).arrAt_eq_of_covers 2 _ (by decide +kernel) fun t hf y => ?_
  blk_simp
  rw [after0_2]
  frame_out
  unfold_payloads
  pointwise [proj]
  blk_point [iblk, V, idx t]

theorem run (g : Dev nD → PrngReg) : θ_run defs (onTc (τ := τ) (main (F := Ideal))) ⟨m, fun _ => 0, g⟩ fun r => ∀ c : Dev nD,
      r.2.mem ((c : Thread nD τ).loc main_v1) = spec m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m g)

end Cert.OutIdeal.Hand

namespace Cert.Proof.Out

/-- The projection's kernel and its reference leave the same array. -/
theorem algebraic : Cert.algebraic_OutIdeal_OutRefIdeal := by
  intro m g m' g' _ hagree
  refine ⟨fun c => Cert.OutIdeal.Hand.spec m c, Cert.OutIdeal.Hand.run m g, ?_⟩
  refine (θ_run Cert.OutRefIdeal.defs _ _).mono (fun _ h c => ⟨(h c).1.trans ?_, (h c).2⟩)
    (Cert.OutRefIdeal.Value.run (F := Ideal) m' g')
  rw [(hagree c).1, (hagree c).2]
  funext i
  clean_types
  pointwise [Cert.OutIdeal.Hand.proj]

end Cert.Proof.Out

end
-- ==== Proof.LnSample.lean ====
module

public import proofs.«01_k».proof.Defs
public import proofs.«01_k».proof.Proof.Gen.LnSampleIdeal.Value
public import proofs.«01_k».proof.Proof.Gen.LnSampleRefIdeal.Run
public import Idealize.ShloMosaic.Lib.Pipeline.ValueKit

public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.LnSampleIdeal.Hand

open Cert.LnSampleIdeal Cert.LnSampleIdeal.Gen

variable (m : (ℓ : Loc nD τ sig) → Buf (Elt Ideal) ℓ) (ρ : Dev nD → PrngReg)

/-- The residual sum at token `t` of sequence `b`, channel `j`. -/
def resid (x : FVec Ideal S8x4096x4096 .f32) (h : FVec Ideal S32768x4096 .bf16) (g : FVec Ideal S16x1x4096 .f32)
    (b : Fin 8) (t : Fin 4096) (j : Fin 4096) : EReal :=
  Ideal.ofBits .f32 0x3FD744FD#32 * (x (ix3 b t j) : EReal)
    + (g (ix3 ⟨1 + b.val, by omega⟩ 0 j) : EReal) * (h (ix2 ⟨b.val * 4096 + t.val, by omega⟩ j) : EReal)

/-- A row less its mean. -/
def centred (f : Fin 4096 → EReal) (j : Fin 4096) : EReal := f j - Ideal.div (∑ k : Fin 4096, f k) (Ideal.ofBits .f32 0x45800000#32)

/-- A row, normalised to mean nought and variance one. -/
def normed (f : Fin 4096 → EReal) (j : Fin 4096) : EReal :=
  centred f j * Ideal.rsqrt (Ideal.div (∑ k : Fin 4096, centred f k * centred f k) (Ideal.ofBits .f32 0x45800000#32) + Ideal.ofBits .f32 0x3727C5AC#32)

/-- The layer norm of the residual sum. -/
def layerNorm (x : FVec Ideal S8x4096x4096 .f32) (h : FVec Ideal S32768x4096 .bf16) (g : FVec Ideal S16x1x4096 .f32)
    (lg lb : FVec Ideal S4096 .f32) : FVec Ideal S8x4096x4096 .f32 :=
  fun i => (normed (resid x h g (i 0) (i 1)) (i 2) * (lg (ix1 (i 2)) : EReal) + (lb (ix1 (i 2)) : EReal) : EReal)

/-- What the output array is shown to hold. -/
abbrev spec (c : Dev nD) : Buf (Elt Ideal) ((c : Thread nD τ).loc main_v3) :=
  layerNorm (m ((c : Thread nD τ).loc main_arg0)) (m ((c : Thread nD τ).loc main_arg1)) (m ((c : Thread nD τ).loc main_arg2))
    (m ((c : Thread nD τ).loc main_arg3)) (m ((c : Thread nD τ).loc main_arg4))

/-- The block of each window at a point. -/
theorem idx (t : Fin cfg0.N) : win0_0.index t = ![t.val / 16, t.val % 16, 0] ∧ win0_1.index t = ![t.val / 16, t.val % 16, 0]
    ∧ win0_2.index t = ![t.val / 16 + 1, 0, 0] ∧ win0_3.index t = ![0, 0] ∧ win0_4.index t = ![0, 0]
    ∧ win0_5.index t = ![t.val / 16, t.val % 16, 0] :=
  (by decide +kernel : ∀ t : Fin cfg0.N, win0_0.index t = ![t.val / 16, t.val % 16, 0] ∧ win0_1.index t = ![t.val / 16, t.val % 16, 0]
    ∧ win0_2.index t = ![t.val / 16 + 1, 0, 0] ∧ win0_3.index t = ![0, 0] ∧ win0_4.index t = ![0, 0]
    ∧ win0_5.index t = ![t.val / 16, t.val % 16, 0]) t

theorem V_h (c : Dev nD) (b : Fin 8) (t : Fin 4096) (k : Fin 4096) : V m c main_v0 (ix3 b t k)
    = m ((c : Thread nD τ).loc main_arg1) (ix2 ⟨b.val * 4096 + t.val, by omega⟩ k) := by
  entry_read
  pointwise

theorem V_g (c : Dev nD) (k : Fin 4096) : V m c main_v1 (ix2 0 k) = m ((c : Thread nD τ).loc main_arg3) (ix1 k) := by
  entry_read
  pointwise

theorem V_b (c : Dev nD) (k : Fin 4096) : V m c main_v2 (ix2 0 k) = m ((c : Thread nD τ).loc main_arg4) (ix1 k) := by
  entry_read
  pointwise

theorem blk_x (c : Dev nD) (t : Fin cfg0.N) (b : Fin 1) (r : Fin 256) (k : Fin 4096) : iblk m c 0 t (ix3 b r k)
    = m ((c : Thread nD τ).loc main_arg0) (ix3 ⟨t.val / 16, by have : t.val < 128 := t.isLt; omega⟩ ⟨t.val % 16 * 256 + r.val, by omega⟩ k) := by
  have e : (win0_0.blk t).view.emb (ix3 b r k) = ix3 (⟨t.val / 16, by have : t.val < 128 := t.isLt; omega⟩ : Fin 8) (⟨t.val % 16 * 256 + r.val, by omega⟩ : Fin 4096) k := by blk_ext [idx t]
  blk_simp [iblk]
  rw [e, V_main_arg0]

theorem blk_h (c : Dev nD) (t : Fin cfg0.N) (b : Fin 1) (r : Fin 256) (k : Fin 4096) : iblk m c 1 t (ix3 b r k)
    = m ((c : Thread nD τ).loc main_arg1) (ix2 ⟨t.val / 16 * 4096 + (t.val % 16 * 256 + r.val), by have : t.val < 128 := t.isLt; omega⟩ k) := by
  have e : (win0_1.blk t).view.emb (ix3 b r k) = ix3 (⟨t.val / 16, by have : t.val < 128 := t.isLt; omega⟩ : Fin 8) (⟨t.val % 16 * 256 + r.val, by omega⟩ : Fin 4096) k := by blk_ext [idx t]
  blk_simp [iblk]
  rw [e]
  exact V_h m c _ _ k

theorem blk_gate (c : Dev nD) (t : Fin cfg0.N) (k : Fin 4096) : iblk m c 2 t (ix3 0 0 k)
    = m ((c : Thread nD τ).loc main_arg2) (ix3 ⟨1 + t.val / 16, by have : t.val < 128 := t.isLt; omega⟩ 0 k) := by
  have e : (win0_2.blk t).view.emb (ix3 0 0 k) = ix3 (⟨1 + t.val / 16, by have : t.val < 128 := t.isLt; omega⟩ : Fin 16) (0 : Fin 1) k := by blk_ext [idx t]
  blk_simp [iblk]
  rw [e, V_main_arg2]

theorem blk_g (c : Dev nD) (t : Fin cfg0.N) (k : Fin 4096) : iblk m c 3 t (ix2 0 k) = m ((c : Thread nD τ).loc main_arg3) (ix1 k) := by
  have e : (win0_3.blk t).view.emb (ix2 0 k) = ix2 (0 : Fin 1) k := by blk_ext [idx t]
  blk_simp [iblk]
  rw [e]
  exact V_g m c k

theorem blk_b (c : Dev nD) (t : Fin cfg0.N) (k : Fin 4096) : iblk m c 4 t (ix2 0 k) = m ((c : Thread nD τ).loc main_arg4) (ix1 k) := by
  have e : (win0_4.blk t).view.emb (ix2 0 k) = ix2 (0 : Fin 1) k := by blk_ext [idx t]
  blk_simp [iblk]
  rw [e]
  exact V_b m c k

theorem final (c : Dev nD) : (dats m 0 c).arrAt 5 cfg0.N = spec m c := by
  refine (dats m 0 c).arrAt_eq_of_covers 5 _ (by decide +kernel) fun t hf y => ?_
  blk_simp
  rw [after0_5]
  frame_out
  unfold_payloads
  pointwise [layerNorm, normed, centred, resid]
  reads_congr
  · refine (congrArg (iblk m c 0 t) (eq_ix3 y)).trans ((blk_x m c t (y 0) (y 1) (y 2)).trans ?_)
    blk_ext [idx t]
  · refine (blk_gate m c t (y 2)).trans ?_
    blk_ext [idx t]
  · refine (congrArg (iblk m c 1 t) (eq_ix3 y)).trans ((blk_h m c t (y 0) (y 1) (y 2)).trans ?_)
    blk_ext [idx t]
  · refine (blk_x m c t 0 (y 1) _).trans ?_
    blk_ext [idx t]
  · refine (blk_gate m c t _).trans ?_
    blk_ext [idx t]
  · refine (blk_h m c t 0 (y 1) _).trans ?_
    blk_ext [idx t]
  · refine (blk_g m c t (y 2)).trans ?_
    blk_ext [idx t]
  · refine (blk_b m c t (y 2)).trans ?_
    blk_ext [idx t]

theorem run (g : Dev nD → PrngReg) : θ_run defs (onTc (τ := τ) (main (F := Ideal))) ⟨m, fun _ => 0, g⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m g)

end Cert.LnSampleIdeal.Hand

namespace Cert.Proof.LnSample

/-- The kernel and its reference leave the same array. -/
theorem algebraic : Cert.algebraic_LnSampleIdeal_LnSampleRefIdeal := by
  intro m g m' g' _ hagree
  refine ⟨fun c => Cert.LnSampleIdeal.Hand.spec m c, Cert.LnSampleIdeal.Hand.run m g, ?_⟩
  refine (θ_run Cert.LnSampleRefIdeal.defs _ _).mono (fun _ h c => ⟨(h c).1.trans ?_, (h c).2⟩)
    (Cert.LnSampleRefIdeal.Value.run (F := Ideal) m' g')
  unfold Cert.LnSampleRefIdeal.Value.res_main_v31
  rw [(hagree c).1, (hagree c).2.1, (hagree c).2.2.1, (hagree c).2.2.2.1, (hagree c).2.2.2.2]
  funext i
  clean_types
  pointwise [Cert.LnSampleIdeal.Hand.layerNorm, Cert.LnSampleIdeal.Hand.normed, Cert.LnSampleIdeal.Hand.centred, Cert.LnSampleIdeal.Hand.resid]

end Cert.Proof.LnSample

end
-- ==== Proof.LnPrompt.lean ====
module

public import proofs.«01_k».proof.Defs
public import proofs.«01_k».proof.Proof.Gen.LnPromptIdeal.Value
public import proofs.«01_k».proof.Proof.Gen.LnPromptRefIdeal.Run
public import Idealize.ShloMosaic.Lib.Pipeline.ValueKit

public import Idealize.ShloMosaic.Lib.Pointwise
public import Idealize.ShloMosaic.Lib.Tactic.CleanTypes

@[expose] public section

set_option maxRecDepth 16384

noncomputable section

open Idealize.ShloMosaic Idealize.ShloMosaic.TcCoe Idealize.SL.Sem
open Idealize.ShloMosaic.Pipeline (Dat)

namespace Cert.LnPromptIdeal.Hand

open Cert.LnPromptIdeal Cert.LnPromptIdeal.Gen

variable (m : (ℓ : Loc nD τ sig) → Buf (Elt Ideal) ℓ) (ρ : Dev nD → PrngReg)

/-- The residual sum at token `t` of sequence `b`, channel `j`. -/
def resid (x : FVec Ideal S32x256x4096 .f32) (h : FVec Ideal S8192x4096 .bf16) (g : FVec Ideal S16x1x4096 .f32)
    (b : Fin 32) (t : Fin 256) (j : Fin 4096) : EReal :=
  Ideal.ofBits .f32 0x3FD744FD#32 * (x (ix3 b t j) : EReal)
    + (g (ix3 0 0 j) : EReal) * (h (ix2 ⟨b.val * 256 + t.val, by omega⟩ j) : EReal)

/-- A row less its mean. -/
def centred (f : Fin 4096 → EReal) (j : Fin 4096) : EReal := f j - Ideal.div (∑ k : Fin 4096, f k) (Ideal.ofBits .f32 0x45800000#32)

/-- A row, normalised to mean nought and variance one. -/
def normed (f : Fin 4096 → EReal) (j : Fin 4096) : EReal :=
  centred f j * Ideal.rsqrt (Ideal.div (∑ k : Fin 4096, centred f k * centred f k) (Ideal.ofBits .f32 0x45800000#32) + Ideal.ofBits .f32 0x3727C5AC#32)

/-- The layer norm of the residual sum. -/
def layerNorm (x : FVec Ideal S32x256x4096 .f32) (h : FVec Ideal S8192x4096 .bf16) (g : FVec Ideal S16x1x4096 .f32)
    (lg lb : FVec Ideal S4096 .f32) : FVec Ideal S32x256x4096 .f32 :=
  fun i => (normed (resid x h g (i 0) (i 1)) (i 2) * (lg (ix1 (i 2)) : EReal) + (lb (ix1 (i 2)) : EReal) : EReal)

/-- What the output array is shown to hold. -/
abbrev spec (c : Dev nD) : Buf (Elt Ideal) ((c : Thread nD τ).loc main_v3) :=
  layerNorm (m ((c : Thread nD τ).loc main_arg0)) (m ((c : Thread nD τ).loc main_arg1)) (m ((c : Thread nD τ).loc main_arg2))
    (m ((c : Thread nD τ).loc main_arg3)) (m ((c : Thread nD τ).loc main_arg4))

/-- The block of each window at a point. -/
theorem idx (t : Fin cfg0.N) : win0_0.index t = ![t.val, 0, 0] ∧ win0_1.index t = ![t.val, 0, 0]
    ∧ win0_2.index t = ![0, 0, 0] ∧ win0_3.index t = ![0, 0] ∧ win0_4.index t = ![0, 0]
    ∧ win0_5.index t = ![t.val, 0, 0] :=
  (by decide +kernel : ∀ t : Fin cfg0.N, win0_0.index t = ![t.val, 0, 0] ∧ win0_1.index t = ![t.val, 0, 0]
    ∧ win0_2.index t = ![0, 0, 0] ∧ win0_3.index t = ![0, 0] ∧ win0_4.index t = ![0, 0]
    ∧ win0_5.index t = ![t.val, 0, 0]) t

theorem V_h (c : Dev nD) (b : Fin 32) (t : Fin 256) (k : Fin 4096) : V m c main_v0 (ix3 b t k)
    = m ((c : Thread nD τ).loc main_arg1) (ix2 ⟨b.val * 256 + t.val, by omega⟩ k) := by
  entry_read
  pointwise

theorem V_g (c : Dev nD) (k : Fin 4096) : V m c main_v1 (ix2 0 k) = m ((c : Thread nD τ).loc main_arg3) (ix1 k) := by
  entry_read
  pointwise

theorem V_b (c : Dev nD) (k : Fin 4096) : V m c main_v2 (ix2 0 k) = m ((c : Thread nD τ).loc main_arg4) (ix1 k) := by
  entry_read
  pointwise

theorem blk_x (c : Dev nD) (t : Fin cfg0.N) (b : Fin 1) (r : Fin 256) (k : Fin 4096) : iblk m c 0 t (ix3 b r k)
    = m ((c : Thread nD τ).loc main_arg0) (ix3 ⟨t.val, t.isLt⟩ r k) := by
  have e : (win0_0.blk t).view.emb (ix3 b r k) = ix3 (⟨t.val, t.isLt⟩ : Fin 32) r k := by blk_ext [idx t]
  blk_simp [iblk]
  rw [e, V_main_arg0]

theorem blk_h (c : Dev nD) (t : Fin cfg0.N) (b : Fin 1) (r : Fin 256) (k : Fin 4096) : iblk m c 1 t (ix3 b r k)
    = m ((c : Thread nD τ).loc main_arg1) (ix2 ⟨t.val * 256 + r.val, by have : t.val < 32 := t.isLt; omega⟩ k) := by
  have e : (win0_1.blk t).view.emb (ix3 b r k) = ix3 (⟨t.val, t.isLt⟩ : Fin 32) r k := by blk_ext [idx t]
  blk_simp [iblk]
  rw [e]
  exact V_h m c _ r k

theorem blk_gate (c : Dev nD) (t : Fin cfg0.N) (k : Fin 4096) : iblk m c 2 t (ix3 0 0 k)
    = m ((c : Thread nD τ).loc main_arg2) (ix3 0 0 k) := by
  have e : (win0_2.blk t).view.emb (ix3 0 0 k) = ix3 (0 : Fin 16) (0 : Fin 1) k := by blk_ext [idx t]
  blk_simp [iblk]
  rw [e, V_main_arg2]

theorem blk_g (c : Dev nD) (t : Fin cfg0.N) (k : Fin 4096) : iblk m c 3 t (ix2 0 k) = m ((c : Thread nD τ).loc main_arg3) (ix1 k) := by
  have e : (win0_3.blk t).view.emb (ix2 0 k) = ix2 (0 : Fin 1) k := by blk_ext [idx t]
  blk_simp [iblk]
  rw [e]
  exact V_g m c k

theorem blk_b (c : Dev nD) (t : Fin cfg0.N) (k : Fin 4096) : iblk m c 4 t (ix2 0 k) = m ((c : Thread nD τ).loc main_arg4) (ix1 k) := by
  have e : (win0_4.blk t).view.emb (ix2 0 k) = ix2 (0 : Fin 1) k := by blk_ext [idx t]
  blk_simp [iblk]
  rw [e]
  exact V_b m c k

theorem final (c : Dev nD) : (dats m 0 c).arrAt 5 cfg0.N = spec m c := by
  refine (dats m 0 c).arrAt_eq_of_covers 5 _ (by decide +kernel) fun t hf y => ?_
  blk_simp
  rw [after0_5]
  frame_out
  unfold_payloads
  pointwise [layerNorm, normed, centred, resid]
  reads_congr
  · refine (congrArg (iblk m c 0 t) (eq_ix3 y)).trans ((blk_x m c t (y 0) (y 1) (y 2)).trans ?_)
    blk_ext [idx t]
  · refine (blk_gate m c t (y 2)).trans ?_
    blk_ext [idx t]
  · refine (congrArg (iblk m c 1 t) (eq_ix3 y)).trans ((blk_h m c t (y 0) (y 1) (y 2)).trans ?_)
    blk_ext [idx t]
  · refine (blk_x m c t 0 (y 1) _).trans ?_
    blk_ext [idx t]
  · exact blk_gate m c t _
  · refine (blk_h m c t 0 (y 1) _).trans ?_
    blk_ext [idx t]
  · refine (blk_g m c t (y 2)).trans ?_
    blk_ext [idx t]
  · refine (blk_b m c t (y 2)).trans ?_
    blk_ext [idx t]

theorem run (g : Dev nD → PrngReg) : θ_run defs (onTc (τ := τ) (main (F := Ideal))) ⟨m, fun _ => 0, g⟩ fun r => ∀ c : Dev nD,
      r.2.mem ((c : Thread nD τ).loc main_v3) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m g)

end Cert.LnPromptIdeal.Hand

namespace Cert.Proof.LnPrompt

/-- The kernel and its reference leave the same array. -/
theorem algebraic : Cert.algebraic_LnPromptIdeal_LnPromptRefIdeal := by
  intro m g m' g' _ hagree
  refine ⟨fun c => Cert.LnPromptIdeal.Hand.spec m c, Cert.LnPromptIdeal.Hand.run m g, ?_⟩
  refine (θ_run Cert.LnPromptRefIdeal.defs _ _).mono (fun _ h c => ⟨(h c).1.trans ?_, (h c).2⟩)
    (Cert.LnPromptRefIdeal.Value.run (F := Ideal) m' g')
  unfold Cert.LnPromptRefIdeal.Value.res_main_v33
  rw [(hagree c).1, (hagree c).2.1, (hagree c).2.2.1, (hagree c).2.2.2.1, (hagree c).2.2.2.2]
  funext i
  clean_types
  pointwise [Cert.LnPromptIdeal.Hand.layerNorm, Cert.LnPromptIdeal.Hand.normed, Cert.LnPromptIdeal.Hand.centred, Cert.LnPromptIdeal.Hand.resid]

end Cert.Proof.LnPrompt

end
-- ==== Proof.GlaMath.lean ====
module

public import Idealize.ShloMosaic.PureOps.Ideal
public import Mathlib.Analysis.SpecialFunctions.Pow.Real
public import Mathlib.Algebra.BigOperators.Intervals

@[expose] public section

noncomputable section

open Idealize.ShloMosaic

namespace Cert.Proof.GlaMath

/-- The logarithm of the logistic function. -/
def ls (x : ℝ) : ℝ := -Real.log (1 + Real.exp (-x))

theorem ls_eq (x : ℝ) : min x 0 - Real.log (1 + Real.exp (0 - max x (-x))) = ls x := by
  unfold ls
  rcases le_total 0 x with h | h
  · rw [min_eq_right h, max_eq_left (by linarith), zero_sub, zero_sub]
  · rw [min_eq_left h, max_eq_right (by linarith), zero_sub, neg_neg]
    have e : 1 + Real.exp (-x) = Real.exp (-x) * (1 + Real.exp x) := by
      rw [mul_add, mul_one, ← Real.exp_add, neg_add_cancel, Real.exp_zero, add_comm]
    rw [e, Real.log_mul (Real.exp_pos _).ne' (by positivity), Real.log_exp]
    ring

/-- The kernel's gate at a finite logit. -/
theorem kernel_gate (x : ℝ) : (min (x : EReal) 0 - Ideal.log (1 + Ideal.exp (0 - max (x : EReal) (-(x : EReal))))) * (((16 * Real.log 2)⁻¹ : ℝ) : EReal)
    = ((ls x * (16 * Real.log 2)⁻¹ : ℝ) : EReal) := by
  have h1 : min (x : EReal) 0 = ((min x 0 : ℝ) : EReal) := by
    rw [← EReal.coe_zero]; exact (EReal.coe_strictMono.monotone.map_min).symm
  have h2 : max (x : EReal) (-(x : EReal)) = ((max x (-x) : ℝ) : EReal) := by
    rw [← EReal.coe_neg]; exact (EReal.coe_strictMono.monotone.map_max).symm
  have h3 : ¬ 1 + Real.exp (0 - max x (-x)) ≤ 0 := not_le.mpr (by positivity)
  rw [h1, h2, ← EReal.coe_zero, ← EReal.coe_sub, Ideal.exp_coe, ← EReal.coe_one, ← EReal.coe_add, Ideal.log_coe, if_neg h3, ← EReal.coe_sub, ls_eq, ← EReal.coe_mul]

/-- The reference's gate at a finite logit. -/
theorem ref_gate (x : ℝ) : Ideal.div (-(Ideal.log1p (Ideal.exp (-(x : EReal))))) ((16 : ℝ) : EReal) = ((ls x / 16 : ℝ) : EReal) := by
  have h3 : ¬ 1 + Real.exp (-x) ≤ 0 := not_le.mpr (by positivity)
  unfold Ideal.log1p Ideal.div
  rw [← EReal.coe_neg, Ideal.exp_coe, ← EReal.coe_one, ← EReal.coe_add, Ideal.log_coe, if_neg h3, ← EReal.coe_neg, if_neg (by norm_num), ← EReal.coe_inv, ← EReal.coe_mul]
  rfl

theorem coe_mul_sum {ι : Type} (c : ℝ) (hc : 0 ≤ c) (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The recurrence in closed form: each token's outer product, decayed by the gates after it. -/
theorem closed (a : ℕ → ℝ) (u S : ℕ → EReal) (h0 : S 0 = 0) (n : ℕ) (hs : ∀ j < n, S (j + 1) = Ideal.exp (a j) * S j + u j) :
    S n = ∑ s ∈ Finset.range n, u s * ((Real.exp (∑ r ∈ Finset.Ico (s + 1) n, a r) : ℝ) : EReal) := by
  induction n with
  | zero => simpa using h0
  | succ n ih =>
    rw [hs n (Nat.lt_succ_self n), ih fun j hj => hs j (by omega), Finset.sum_range_succ, Ideal.exp_coe, coe_mul_sum _ (Real.exp_pos _).le]
    congr 1
    · refine Finset.sum_congr rfl fun s h => ?_
      rw [Finset.mem_range] at h
      rw [mul_left_comm, ← EReal.coe_mul, ← Real.exp_add, Finset.sum_Ico_succ_top (by omega), add_comm (a n)]
    · rw [Finset.Ico_self, Finset.sum_empty, Real.exp_zero, EReal.coe_one, mul_one]

/-- A power of two of a difference of running sums of gates counted in powers of two is the decay between them. -/
theorem decay (x : ℕ → ℝ) (n s : ℕ) (h : s < n) :
    Ideal.exp2 (((∑ r ∈ Finset.range n, ls (x r) * (16 * Real.log 2)⁻¹ : ℝ) : EReal) - ((∑ r ∈ Finset.range (s + 1), ls (x r) * (16 * Real.log 2)⁻¹ : ℝ) : EReal))
      = ((Real.exp (∑ r ∈ Finset.Ico (s + 1) n, ls (x r) / 16) : ℝ) : EReal) := by
  have h2 : Real.log 2 ≠ 0 := (Real.log_pos (by norm_num)).ne'
  rw [← EReal.coe_sub, ← Finset.sum_range_add_sum_Ico _ (show s + 1 ≤ n by omega), add_sub_cancel_left, Ideal.exp2_coe]
  congr 1
  refine (Real.rpow_def_of_pos (by norm_num) _).trans ?_
  rw [Finset.mul_sum]
  congr 1
  refine Finset.sum_congr rfl fun r _ => ?_
  field_simp

/-- The state after 256 tokens: each token's value and key, the key decayed by every later token's gate. -/
def spec (K W : Fin 256 → EReal) (x : ℕ → ℝ) : EReal :=
  ∑ s : Fin 256, W s * (K s * ((Real.exp (∑ r ∈ Finset.Ico (s.val + 1) 256, ls (x r) / 16) : ℝ) : EReal))

theorem sum_pad (a : Fin 128 → EReal) (w : Fin 16 → EReal) :
    (∑ r : Fin 128, a r * (if h : r.val < 16 then w ⟨r.val, h⟩ else 0)) = ∑ r : Fin 16, a ⟨r.val, by omega⟩ * w r := by
  refine (Fin.sum_univ_add (a := 16) (b := 112) (fun r : Fin 128 => a r * (if h : r.val < 16 then w ⟨r.val, h⟩ else 0))).trans ?_
  have hz : ∀ r : Fin 112, a (Fin.natAdd 16 r) * (if h : (Fin.natAdd 16 r : Fin 128).val < 16 then w ⟨(Fin.natAdd 16 r : Fin 128).val, h⟩ else 0) = 0 := fun r => by
    rw [dif_neg (by simp), mul_zero]
  rw [Finset.sum_eq_zero fun r _ => hz r, add_zero]
  refine Finset.sum_congr rfl fun r _ => ?_
  exact congrArg (fun z : EReal => _ * z) (dif_pos r.isLt)

theorem sum_last (K W : Fin 256 → EReal) (g : Fin 256 → EReal) (x : ℕ → ℝ)
    (hg : ∀ t : Fin 256, g t = ((∑ r ∈ Finset.range (t.val + 1), ls (x r) * (16 * Real.log 2)⁻¹ : ℝ) : EReal)) :
    (∑ s : Fin 256, W s * (K s * Ideal.exp2 (g 255 - g s))) = spec K W x := by
  unfold spec
  refine Finset.sum_congr rfl fun s _ => ?_
  rw [hg, hg]
  exact congrArg (fun z : EReal => W s * (K s * z)) (decay x 256 s.val s.isLt)

/-- The same state, one token after another. -/
theorem scan (K W : Fin 256 → EReal) (x : ℕ → ℝ) (S : ℕ → EReal) (h0 : S 0 = 0)
    (hs : ∀ j : Fin 256, S (j.val + 1) = Ideal.exp ((ls (x j.val) / 16 : ℝ) : EReal) * S j.val + K j * W j) : S 256 = spec K W x := by
  refine (closed (fun r => ls (x r) / 16) (fun j => if h : j < 256 then K ⟨j, h⟩ * W ⟨j, h⟩ else 0) S h0 256 fun j hj => ?_).trans ?_
  · refine (hs ⟨j, hj⟩).trans ?_
    beta_reduce
    rw [dif_pos hj]
  · rw [← Fin.sum_univ_eq_sum_range (fun s => (if h : s < 256 then K ⟨s, h⟩ * W ⟨s, h⟩ else 0) * ((Real.exp (∑ r ∈ Finset.Ico (s + 1) 256, ls (x r) / 16) : ℝ) : EReal)) 256]
    unfold spec
    refine Finset.sum_congr rfl fun s _ => ?_
    rw [dif_pos s.isLt, mul_comm (K _) (W _), mul_assoc]

end Cert.Proof.GlaMath

end
-- ==== Proof.GlaState.lean ====
module

public import proofs.«01_k».proof.Defs
public import proofs.«01_k».proof.Proof.Gen.GlaStateIdeal.Value
public import proofs.«01_k».proof.Proof.GlaMath
public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

set_option maxRecDepth 16384
set_option maxHeartbeats 100000

noncomputable section

open Idealize.ShloMosaic Idealize.ShloMosaic.TcCoe Idealize.SL.Sem
open Idealize.ShloMosaic.Pipeline (Dat)

namespace Cert.GlaStateIdeal.Hand

open Cert.GlaStateIdeal Cert.GlaStateIdeal.Gen

/-- The last row of a block of 256. -/
def edge (g : FVec Ideal S256x1024 .f32) : FVec Ideal S1x1024 .f32 := fun y => g ((Rect.unit (s := S256x1024) ![255, 0] S1x1024.size inb_S256x1024_S1x1024_255_0).idx y)

/-- What the body leaves of its first head. -/
def head0 (g : FVec Ideal S256x1024 .f32) (x1 : Vec Ideal S256x1024 .f32) (x2 : Vec Ideal S256x2048 .f32) : FVec Ideal S1x1x1x512x1024 .f32 :=
  k0_pay3 (k0_pay16 g x1 x2 (edge g) (k0_pay5 (F := Ideal)))

/-- What the body leaves of its second head. -/
def head1 (g : FVec Ideal S256x1024 .f32) (x1 : Vec Ideal S256x1024 .f32) (x2 : Vec Ideal S256x2048 .f32) : FVec Ideal S1x1x1x512x1024 .f32 :=
  k0_pay4 (k0_pay21 (k0_pay10 x2) (k0_pay12 g x1 (edge g)) (k0_pay13 (edge g)) (k0_pay17 (k0_pay6 (F := Ideal))))

theorem hz2 : (![0, 0] : Fin 2 → Nat) = fun _ => 0 := by decide

theorem hz3 : (![0, 0, 0] : Fin 3 → Nat) = fun _ => 0 := by decide

theorem cov_edge (v : View sig .tc .vmem S256x1024 .f32) (g : FVec Ideal S256x1024 .f32) :
    v.readCov [(⟨Rect.unit (s := S256x1024) ![0, 0] S256x1024.size inb_S256x1024_S256x1024_0_0, k0_pay8 g⟩ : View.Piece (Elt Ideal) S256x1024 .f32)]
      (Rect.unit (s := S256x1024) ![255, 0] S1x1024.size inb_S256x1024_S1x1024_255_0).toLoadRect = edge g := by
  rw [View.readCov_fill _ _ _ _ _ (by decide)]
  unfold k0_pay8
  rw [shapeCast_self]
  rfl

theorem cov_skip (v : View sig .tc .vmem S2x1024x512 .f32) (a b : FVec Ideal S1x1024x512 .f32) (L : List (View.Piece (Elt Ideal) S2x1024x512 .f32)) :
    v.readCov ((⟨Rect.unit (s := S2x1024x512) ![1, 0, 0] S1x1024x512.size inb_S2x1024x512_S1x1024x512_1_0_0, a⟩ : View.Piece (Elt Ideal) S2x1024x512 .f32)
      :: ⟨Rect.unit (s := S2x1024x512) ![0, 0, 0] S1x1024x512.size inb_S2x1024x512_S1x1024x512_0_0_0, b⟩ :: L)
      (Rect.unit (s := S2x1024x512) ![0, 0, 0] S1x1024x512.size inb_S2x1024x512_S1x1024x512_0_0_0).toLoadRect = b := by
  rw [View.readCov_skip _ _ _ _ _ (by decide)]
  exact View.readCov_cons_toLoadRect _ _ _ _

theorem cov_skip' (v : View sig .tc .vmem S2x1024x512 .f32) (a b : FVec Ideal S1x1024x512 .f32) (L : List (View.Piece (Elt Ideal) S2x1024x512 .f32)) :
    v.readCov ((⟨Rect.unit (s := S2x1024x512) ![0, 0, 0] S1x1024x512.size inb_S2x1024x512_S1x1024x512_0_0_0, a⟩ : View.Piece (Elt Ideal) S2x1024x512 .f32)
      :: ⟨Rect.unit (s := S2x1024x512) ![1, 0, 0] S1x1024x512.size inb_S2x1024x512_S1x1024x512_1_0_0, b⟩ :: L)
      (Rect.unit (s := S2x1024x512) ![1, 0, 0] S1x1024x512.size inb_S2x1024x512_S1x1024x512_1_0_0).toLoadRect = b := by
  rw [View.readCov_skip _ _ _ _ _ (by decide)]
  exact View.readCov_cons_toLoadRect _ _ _ _

theorem cov_last (v : View sig .tc .vmem S2x1024x512 .f32) (a : FVec Ideal S1x1024x512 .f32) (L : List (View.Piece (Elt Ideal) S2x1024x512 .f32)) :
    v.readCov ((⟨Rect.unit (s := S2x1024x512) ![1, 0, 0] S1x1024x512.size inb_S2x1024x512_S1x1024x512_1_0_0, a⟩ : View.Piece (Elt Ideal) S2x1024x512 .f32) :: L)
      (Rect.unit (s := S2x1024x512) ![1, 0, 0] S1x1024x512.size inb_S2x1024x512_S1x1024x512_1_0_0).toLoadRect = a :=
  View.readCov_cons_toLoadRect _ _ _ _

theorem outp (c : Dev nD) (i : grid0.Coords) (arg3 : Memref sig .tc .vmem S256x1024 .f32) (harg3 : arg3.IsWhole) (arg4 : Memref sig .tc .vmem S256x1024 .f32) (harg4 : arg4.IsWhole) (arg5 : Memref sig .tc .vmem S256x2048 .f32) (harg5 : arg5.IsWhole) (arg6 : Memref sig .tc .vmem S256x128 .f32) (harg6 : arg6.IsWhole) (arg7 : Memref sig .tc .vmem S1x128x1024 .bf16) (harg7 : arg7.IsWhole) (arg8 : Memref sig .tc .vmem S1x1x1024 .f32) (harg8 : arg8.IsWhole) (arg9 : Memref sig .tc .vmem S256x256 .i32) (harg9 : arg9.IsWhole) (arg10 : Memref sig .tc .vmem S256x768 .bf16) (harg10 : arg10.IsWhole) (arg11 : Memref sig .tc .vmem S256x2048 .f32) (harg11 : arg11.IsWhole) (arg12 : Memref sig .tc .vmem S1x1x2x512x1024 .f32) (harg12 : arg12.IsWhole) (arg13 : Memref sig .tc .vmem S2x1024x512 .f32) (harg13 : arg13.IsWhole) (arg14 : Memref sig .tc .vmem S256x1024 .f32) (harg14 : arg14.IsWhole) (hc0 : cond0_0 i) (hc1 : cond0_1 i)
    (x0 : Vec Ideal S256x1024 .f32) (x1 : Vec Ideal S256x1024 .f32) (x2 : Vec Ideal S256x2048 .f32) (x3 : Vec Ideal S256x128 .f32) (x4 : Vec Ideal S1x128x1024 .bf16) (x5 : Vec Ideal S1x1x1024 .f32) (x6 : Vec Ideal S256x256 .i32) (x7 : Vec Ideal S256x768 .bf16) :
    out0_A_9 c i arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 = View.canon [⟨Rect.unit (s := S1x1x2x512x1024) ![0, 0, 1, 0, 0] S1x1x1x512x1024.size inb_S1x1x2x512x1024_S1x1x1x512x1024_0_0_1_0_0, head1 (k0_pay7 x3 x4 x5 x7) x1 x2⟩,
      ⟨Rect.unit (s := S1x1x2x512x1024) ![0, 0, 0, 0, 0] S1x1x1x512x1024.size inb_S1x1x2x512x1024_S1x1x1x512x1024_0_0_0_0_0, head0 (k0_pay7 x3 x4 x5 x7) x1 x2⟩] := by
  unfold out0_A_9
  rw [View.read_writes_junk_eq_canon]
  unfold kernelRun0_A
  dsimp only
  sl_unfold_words
  simp only [View.readAt_eq_ld, harg4.read_unread, harg5.read_unread, harg6.read_unread, harg7.read_unread, harg8.read_unread, harg10.read_unread,
    View.ld_unit_zero (S := S256x1024) hz2, View.ld_unit_zero (S := S256x2048) hz2, View.ld_unit_zero (S := S256x128) hz2, View.ld_unit_zero (S := S256x768) hz2,
    View.ld_unit_zero (S := S1x128x1024) hz3, View.ld_unit_zero (S := S1x1x1024) hz3]
  refine congrArg₂ (fun a b => View.canon [(⟨Rect.unit (s := S1x1x2x512x1024) ![0, 0, 1, 0, 0] S1x1x1x512x1024.size inb_S1x1x2x512x1024_S1x1x1x512x1024_0_0_1_0_0, a⟩ : View.Piece (Elt Ideal) S1x1x2x512x1024 .f32),
      ⟨Rect.unit (s := S1x1x2x512x1024) ![0, 0, 0, 0, 0] S1x1x1x512x1024.size inb_S1x1x2x512x1024_S1x1x1x512x1024_0_0_0_0_0, b⟩]) ?_ ?_
  · exact congrArg k0_pay4 ((cov_last _ _ _).trans (congr (congrArg₂ (k0_pay21 (k0_pay10 x2)) (congrArg (k0_pay12 _ _) (cov_edge _ _)) (congrArg k0_pay13 (cov_edge _ _)))
      (congrArg k0_pay17 (cov_skip' _ _ _ _))))
  · exact congrArg k0_pay3 ((cov_skip _ _ _ _).trans (congr (congrArg (k0_pay16 _ x1 x2) (cov_edge _ _)) (cov_skip _ _ _ _)))

/-- The state a head ends with: entry `(i, e)` of it. -/
def fin (g : FVec Ideal S256x1024 .f32) (x1 : FVec Ideal S256x1024 .f32) (x2 : FVec Ideal S256x2048 .f32) (j : Fin 1024) (q : Fin 2048) : EReal :=
  ∑ s : Fin 256, (x2 (ix2 s q) : EReal) * ((x1 (ix2 s j) : EReal) * Ideal.exp2 ((g (ix2 255 j) : EReal) - (g (ix2 s j) : EReal)))

theorem edge_at (g : FVec Ideal S256x1024 .f32) (j : Fin 1024) : edge g (ix2 0 j) = g (ix2 255 j) := by
  unfold edge
  congr 1
  funext a
  fin_cases a
  · rfl
  · exact Fin.ext (by simp [Rect.unit, LoadRect.idx])

theorem head0_at (g : FVec Ideal S256x1024 .f32) (x1 : FVec Ideal S256x1024 .f32) (x2 : FVec Ideal S256x2048 .f32) (i : Fin 512) (e : Fin 1024) :
    head0 g x1 x2 (ix5 0 0 0 i e) = fin g x1 x2 ⟨i.val, by omega⟩ ⟨e.val, by omega⟩ := by
  have he := edge_at g
  generalize hE : edge g = E at he
  unfold head0 k0_pay3 k0_pay16 k0_pay14 k0_pay13 k0_pay12 k0_pay10 k0_pay5
  rw [hE]
  clean_types
  pointwise
  rw [zero_mul, zero_add]
  unfold fin
  refine Finset.sum_congr rfl fun s _ => ?_
  exact congrArg (fun w => _ * (_ * Ideal.exp2 (w - _))) (he _)

theorem head1_at (g : FVec Ideal S256x1024 .f32) (x1 : FVec Ideal S256x1024 .f32) (x2 : FVec Ideal S256x2048 .f32) (i : Fin 512) (e : Fin 1024) :
    head1 g x1 x2 (ix5 0 0 0 i e) = fin g x1 x2 ⟨512 + i.val, by omega⟩ ⟨1024 + e.val, by omega⟩ := by
  have he := edge_at g
  generalize hE : edge g = E at he
  unfold head1 k0_pay4 k0_pay21 k0_pay17 k0_pay13 k0_pay12 k0_pay10 k0_pay6
  rw [hE]
  clean_types
  pointwise
  rw [zero_mul, zero_add]
  unfold fin
  refine Finset.sum_congr rfl fun s _ => ?_
  exact congrArg (fun w => _ * (_ * Ideal.exp2 (w - _))) (he _)

/-- The gate's exponent, per token and per key column: the log-sigmoid of the logit over 16 log 2. -/
def γ (x : ℕ → Fin 1024 → ℝ) (s : ℕ) (j : Fin 1024) : ℝ := Cert.Proof.GlaMath.ls (x s j) * (16 * Real.log 2)⁻¹

theorem pay7_at (x3 : FVec Ideal S256x128 .f32) (x4 : FVec Ideal S1x128x1024 .bf16) (x5 : FVec Ideal S1x1x1024 .f32) (x7 : FVec Ideal S256x768 .bf16)
    (x : ℕ → Fin 1024 → ℝ)
    (hL : ∀ (s : Fin 256) (j : Fin 1024), (∑ r : Fin 128, (x3 (ix2 s r) : EReal) * (x4 (ix3 0 r j) : EReal)) + (x5 (ix3 0 0 j) : EReal) = ((x s.val j : ℝ) : EReal))
    (h7 : ∀ (t : Fin 256) (k : Fin 768), (x7 (ix2 t k) : EReal) = if k.val % 256 ≤ t.val then 1 else 0)
    (t : Fin 256) (j : Fin 1024) :
    (k0_pay7 (F := Ideal) x3 x4 x5 x7 : FVec Ideal S256x1024 .f32) (ix2 t j) = ((∑ r ∈ Finset.range (t.val + 1), γ x r j : ℝ) : EReal) := by
  have key : ∀ s : Fin 256, (min ((∑ r : Fin 128, (x3 (ix2 s r) : EReal) * (x4 (ix3 0 r j) : EReal)) + (x5 (ix3 0 0 j) : EReal)) 0
      - Ideal.log (1 + Ideal.exp (0 - FloatOps.absf (F := Ideal) (φ := .f32) ((∑ r : Fin 128, (x3 (ix2 s r) : EReal) * (x4 (ix3 0 r j) : EReal)) + (x5 (ix3 0 0 j) : EReal)))))
        * (Named.named (F := Ideal) κ "log2e_tau" (0x3DB8AA3B#32 : BitVec 32) : EReal) = ((γ x s.val j : ℝ) : EReal) := by
    intro s
    rw [hL]
    exact Cert.Proof.GlaMath.kernel_gate (x s.val j)
  have zz : ∀ r : ℝ, ((r : ℝ) : EReal) - ((r : ℝ) : EReal) = 0 := fun r => by rw [← EReal.coe_sub, sub_self, EReal.coe_zero]
  have hsum : ∀ k : Fin 768, (if k.val ≤ t.val then γ x k.val j else 0 : ℝ) = (fun n : ℕ => if n ≤ t.val then γ x n j else 0) k.val := fun _ => rfl
  have hr : (∑ r ∈ Finset.range (t.val + 1), γ x r j) = ∑ k : Fin 768, (if k.val ≤ t.val then γ x k.val j else 0 : ℝ) := by
    rw [Finset.sum_congr rfl fun k _ => hsum k, Fin.sum_univ_eq_sum_range (fun n : ℕ => if n ≤ t.val then γ x n j else 0) 768]
    refine Finset.sum_subset_zero_on_sdiff (fun r hr => ?_) (fun r hr => ?_) (fun r hr => ?_)
    · have := Finset.mem_range.1 hr; have := t.isLt; exact Finset.mem_range.2 (by omega)
    · have h := Finset.mem_sdiff.1 hr
      have : ¬ r < t.val + 1 := fun h' => h.2 (Finset.mem_range.2 h')
      exact if_neg (by omega)
    · have := Finset.mem_range.1 hr
      exact (if_pos (by omega)).symm
  rw [hr, Cert.Proof.GlaMath.coe_sum]
  unfold k0_pay7
  clean_types
  pointwise
  refine Finset.sum_congr rfl fun k _ => ?_
  refine (congrArg (fun w : EReal => w * _) (h7 t k)).trans ?_
  by_cases h : k.val < 256
  · refine (congrArg (fun w : EReal => _ * w) ((dif_pos h).trans (key ⟨k.val, h⟩))).trans ?_
    rw [Nat.mod_eq_of_lt h]
    by_cases hk : k.val ≤ t.val
    · rw [if_pos hk, if_pos hk, one_mul]
    · rw [if_neg hk, if_neg hk, zero_mul, EReal.coe_zero]
  · have hk : ¬ k.val ≤ t.val := by have := t.isLt; omega
    refine Eq.trans ?_ ((congrArg (fun r : ℝ => (r : EReal)) (if_neg hk)).trans EReal.coe_zero).symm
    by_cases h2 : k.val - 256 < 256
    · refine (congrArg (fun w : EReal => _ * w) ((dif_neg h).trans ((dif_pos h2).trans ((congrArg₂ (fun a b : EReal => a - b) (key ⟨k.val - 256, h2⟩) (key ⟨k.val - 256, h2⟩)).trans (zz _))))).trans ?_
      exact mul_zero _
    · have h3 : k.val - 256 - 256 < 256 := by have := k.isLt; omega
      refine (congrArg (fun w : EReal => _ * w) ((dif_neg h).trans ((dif_neg h2).trans ((congrArg₂ (fun a b : EReal => a - b)
        ((congrArg₂ (fun a b : EReal => a - b) (key ⟨k.val - 256 - 256, h3⟩) (key ⟨k.val - 256 - 256, h3⟩)).trans (zz _))
        ((congrArg₂ (fun a b : EReal => a - b) (key ⟨k.val - 256 - 256, h3⟩) (key ⟨k.val - 256 - 256, h3⟩)).trans (zz _))).trans (sub_zero _))))).trans ?_
      exact mul_zero _

end Cert.GlaStateIdeal.Hand

end
-- ==== Proof.GlaEntry.lean ====
module

public import proofs.«01_k».proof.Defs
public import proofs.«01_k».proof.Proof.Gen.GlaStateIdeal.Value
public import Idealize.ShloMosaic.Lib.Pipeline.ValueKit
public import Idealize.ShloMosaic.Lib.Routing.OpsOne
public import Idealize.ShloMosaic.Lib.Routing.OpsSet
public import Idealize.ShloMosaic.Lib.StableHlo.RunRead
public import Idealize.ShloMosaic.Lib.Pointwise
public import Idealize.ShloMosaic.Lib.Tactic.CleanTypes

@[expose] public section

set_option maxRecDepth 16384
set_option maxHeartbeats 100000

noncomputable section

open Idealize.ShloMosaic Idealize.ShloMosaic.TcCoe Idealize.SL.Sem Idealize.ShloMosaic.Routing
open Idealize.ShloMosaic.Pipeline (Dat)

namespace Cert.GlaStateIdeal.Hand

open Cert.GlaStateIdeal Cert.GlaStateIdeal.Gen

/-- The rows a block of sixteen lands on, when its pair of index words is `(a, b)`. -/
theorem lands (idx : IVec S2 32) (k : S16x2048.Idx) (ι : S2x128x2048.Idx) :
    scatter_S2x128x2048_S2_S16x2048_01_0_01_0.resultIdx? k idx = some ι ↔
      (idx (ix1 (0 : Fin 2))).toInt = (ι 0).val ∧ (idx (ix1 (1 : Fin 2))).toInt + ((k 0).val : Int) = (ι 1).val ∧ (k 1).val = (ι 2).val := by
  rw [resultIdx?_eq_some]
  have hs0 : scatter_S2x128x2048_S2_S16x2048_01_0_01_0.start k idx 0 = (idx (ix1 (0 : Fin 2))).toInt := by
    unfold ScatterDims.start
    rw [dif_pos (by decide)]
    congr 2
    funext b
    fin_cases b
    rfl
  have hs1 : scatter_S2x128x2048_S2_S16x2048_01_0_01_0.start k idx 1 = (idx (ix1 (1 : Fin 2))).toInt := by
    unfold ScatterDims.start
    rw [dif_pos (by decide)]
    congr 2
    funext b
    fin_cases b
    rfl
  have hs2 : scatter_S2x128x2048_S2_S16x2048_01_0_01_0.start k idx 2 = 0 := by
    unfold ScatterDims.start
    rw [dif_neg (by decide)]
  have hw0 : scatter_S2x128x2048_S2_S16x2048_01_0_01_0.window k 0 = 0 := by
    unfold ScatterDims.window
    rw [dif_neg (by decide)]
  have hw1 : scatter_S2x128x2048_S2_S16x2048_01_0_01_0.window k 1 = (k 0).val := by
    unfold ScatterDims.window
    rw [dif_pos (by decide)]
    rfl
  have hw2 : scatter_S2x128x2048_S2_S16x2048_01_0_01_0.window k 2 = (k 1).val := by
    unfold ScatterDims.window
    rw [dif_pos (by decide)]
    rfl
  constructor
  · intro h
    have h0 := h 0
    have h1 := h 1
    have h2 := h 2
    rw [hs0, hw0] at h0
    rw [hs1, hw1] at h1
    rw [hs2, hw2] at h2
    exact ⟨by omega, h1, by omega⟩
  · rintro ⟨h0, h1, h2⟩ a
    fin_cases a
    · show scatter_S2x128x2048_S2_S16x2048_01_0_01_0.start k idx 0 + (scatter_S2x128x2048_S2_S16x2048_01_0_01_0.window k 0 : Int) = _
      rw [hs0, hw0, h0]; exact add_zero _
    · show scatter_S2x128x2048_S2_S16x2048_01_0_01_0.start k idx 1 + (scatter_S2x128x2048_S2_S16x2048_01_0_01_0.window k 1 : Int) = _
      rw [hs1, hw1]; exact h1
    · show scatter_S2x128x2048_S2_S16x2048_01_0_01_0.start k idx 2 + (scatter_S2x128x2048_S2_S16x2048_01_0_01_0.window k 2 : Int) = _
      rw [hs2, hw2, h2]; exact zero_add _

variable (m : (ℓ : Loc nD τ sig) → Buf (Elt Ideal) ℓ) (ρ : Dev nD → PrngReg)

theorem V_b (c : Dev nD) (j : Fin 2048) : V m c main_v16 (ix3 0 0 j)
    = m ((c : Thread nD τ).loc main_arg3) (ix3 0 0 j) := by
  unfold V
  after_reads_simp
  clean_types
  pointwise

theorem V_t (c : Dev nD) (t : Fin 256) (k : Fin 768) : (show EReal from V m c main_v47 (ix2 t k)) = if k.val % 256 ≤ t.val then 1 else 0 := by
  unfold V
  after_reads_simp
  show (select (cmpi CmpIPredicate.sle (andi (iotaInDim S256x768 32 1) (broadcastInDim S256x768 ![] bcast_S_S256x768 (constantI S_ 32 255#32))) (iotaInDim S256x768 32 0))
    (broadcastInDim S256x768 ![] bcast_S_S256x768 (constant (F := Ideal) S_ FTy.f32 1065353216#32))
    (broadcastInDim S256x768 ![] bcast_S_S256x768 (constant (F := Ideal) S_ FTy.f32 0#32)) : FVec Ideal S256x768 .f32) (ix2 t k) = _
  pointwise
  have e1 : IntOp.andi (BitVec.ofNat 32 k.val) 255#32 = BitVec.ofNat 32 (k.val % 256) :=
    (by decide +kernel : ∀ k : Fin 768, IntOp.andi (BitVec.ofNat 32 k.val) 255#32 = BitVec.ofNat 32 (k.val % 256)) k
  have e2 : IntOp.cmpi CmpIPredicate.sle (BitVec.ofNat 32 (k.val % 256)) (BitVec.ofNat 32 t.val) = BitVec.ofBool (decide (k.val % 256 ≤ t.val)) :=
    WordCmp.cmpi_sle_ofNat (by have := Nat.mod_lt k.val (by decide : 0 < 256); omega) (by have := t.isLt; omega)
  rw [e1, e2]
  by_cases h : k.val % 256 ≤ t.val
  · rw [if_pos h, decide_eq_true h]; rfl
  · rw [if_neg h, decide_eq_false h]; rfl

theorem word_v4 (c : Dev nD) : StableHlo.upto ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16].flatten : List (HloOp τ sig (Elt Ideal))) (fun b => m (c, b)) 9 (Proc.devRef .tc main_v4) = (fun _ => 0#32 : IVec S1 32) := by
  after_reads_simp
  rfl

theorem word_v5 (c : Dev nD) : StableHlo.upto ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16].flatten : List (HloOp τ sig (Elt Ideal))) (fun b => m (c, b)) 9 (Proc.devRef .tc main_v5) = (fun _ => 0#32 : IVec S1 32) := by
  after_reads_simp
  rfl

theorem word_v10 (c : Dev nD) : StableHlo.upto ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16].flatten : List (HloOp τ sig (Elt Ideal))) (fun b => m (c, b)) 17 (Proc.devRef .tc main_v10) = (fun _ => 1#32 : IVec S1 32) := by
  after_reads_simp
  rfl

theorem word_v11 (c : Dev nD) : StableHlo.upto ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16].flatten : List (HloOp τ sig (Elt Ideal))) (fun b => m (c, b)) 17 (Proc.devRef .tc main_v11) = (fun _ => 16#32 : IVec S1 32) := by
  after_reads_simp
  rfl

theorem first (A B : IVec S1 32) : concatenate S2 0 [⟨S1, A⟩, ⟨S1, B⟩] concatenates_S1_S1_S2_d0 (ix1 0) = A (ix1 0) := by
  pointwise

theorem second (A B : IVec S1 32) : concatenate S2 0 [⟨S1, A⟩, ⟨S1, B⟩] concatenates_S1_S1_S2_d0 (ix1 1) = B (ix1 0) := by
  pointwise

/-- Sixteen rows put at the top of plane 0 of a zero array, then sixteen at row 16 of plane 1: plane 0 holds the first sixteen and zeros. -/
theorem planes (A B C D : IVec S1 32) (hA : A (ix1 0) = 0#32) (hB : B (ix1 0) = 0#32) (hC : C (ix1 0) = 1#32) (z : FVec Ideal S2x128x2048 .f32) (hz : ∀ i, (z i : EReal) = 0)
    (u w : FVec Ideal S16x2048 .f32) (r : Fin 128) (j : Fin 2048) :
    (Host.scatter scatter_S2x128x2048_S2_S16x2048_01_0_01_0 (fun _ b => b)
      (Host.scatter scatter_S2x128x2048_S2_S16x2048_01_0_01_0 (fun _ b => b) z (concatenate S2 0 [⟨S1, A⟩, ⟨S1, B⟩] concatenates_S1_S1_S2_d0) u)
      (concatenate S2 0 [⟨S1, C⟩, ⟨S1, D⟩] concatenates_S1_S1_S2_d0) w : FVec Ideal S2x128x2048 .f32) (ix3 0 r j)
    = if h : r.val < 16 then (u (ix2 ⟨r.val, h⟩ j) : EReal) else 0 := by
  have h0 : (0#32 : BitVec 32).toInt = 0 := by decide
  have h1 : (1#32 : BitVec 32).toInt = 1 := by decide
  refine (scatter_set_miss _ _ _ _ _ fun k hk => ?_).trans ?_
  · have := ((lands _ k _).1 hk).1
    rw [first, hC, h1] at this
    exact absurd this (by show ¬ (1 : Int) = ((0 : ℕ) : Int); decide)
  · by_cases h : r.val < 16
    · rw [dif_pos h]
      refine scatter_set_hit _ _ _ _ _ (u (ix2 ⟨r.val, h⟩ j)) (fun k hk => ?_) (ix2 ⟨r.val, h⟩ j) ?_
      · obtain ⟨_, q1, q2⟩ := (lands _ k _).1 hk
        rw [second, hB, h0] at q1
        refine congrArg u ?_
        funext a
        fin_cases a
        · exact Fin.ext (by have : ((k 0).val : Int) = (r.val : Int) := (zero_add _).symm.trans q1; exact Int.ofNat.inj this)
        · exact Fin.ext q2
      · refine (lands _ _ _).2 ⟨?_, ?_, rfl⟩
        · rw [first, hA, h0]; rfl
        · rw [second, hB, h0]; exact zero_add _
    · rw [dif_neg h]
      refine (scatter_set_miss _ _ _ _ _ fun k hk => ?_).trans (hz _)
      obtain ⟨_, q1, q2⟩ := (lands _ k _).1 hk
      rw [second, hB, h0] at q1
      have e : ((k 0).val : Int) = (r.val : Int) := (zero_add _).symm.trans q1
      have : (k 0).val < 16 := (k 0).isLt
      omega

/-- A direction's gate weights. -/
def wsrc (c : Dev nD) (d : Fin 2) : FVec Ideal S16x2048 .f32 :=
  match d with
  | 0 => shapeCast S16x2048 (extractStridedSlice S1x16x2048 ![0, 0, 0] (shapeCast S2x16x2048 (m ((c : Thread nD τ).loc main_arg2) : FVec Ideal S1x2x16x2048 .f32) shapeCasts_S1x2x16x2048_S2x16x2048) slices_S2x16x2048_S1x16x2048_0_0_0) shapeCasts_S1x16x2048_S16x2048
  | 1 => shapeCast S16x2048 (extractStridedSlice S1x16x2048 ![1, 0, 0] (shapeCast S2x16x2048 (m ((c : Thread nD τ).loc main_arg2) : FVec Ideal S1x2x16x2048 .f32) shapeCasts_S1x2x16x2048_S2x16x2048) slices_S2x16x2048_S1x16x2048_1_0_0) shapeCasts_S1x16x2048_S16x2048

/-- The zero array that takes them. -/
def wzero : FVec Ideal S2x128x2048 .f32 := broadcastInDim S2x128x2048 ![] bcast_S_S2x128x2048 (constant (F := Ideal) S_ .f32 0#32)

/-- Both directions' gate weights, each put in its rows. -/
def wput (z : FVec Ideal S2x128x2048 .f32) (u w : FVec Ideal S16x2048 .f32) : FVec Ideal S2x128x2048 .f32 :=
  Host.scatter scatter_S2x128x2048_S2_S16x2048_01_0_01_0 (fun _ b => b)
      (Host.scatter scatter_S2x128x2048_S2_S16x2048_01_0_01_0 (fun _ b => b) z
        (concatenate S2 0 [⟨S1, (fun _ => 0#32 : IVec S1 32)⟩, ⟨S1, (fun _ => 0#32 : IVec S1 32)⟩] concatenates_S1_S1_S2_d0) u)
      (concatenate S2 0 [⟨S1, (fun _ => 1#32 : IVec S1 32)⟩, ⟨S1, (fun _ => 16#32 : IVec S1 32)⟩] concatenates_S1_S1_S2_d0) w

theorem wput_at (z : FVec Ideal S2x128x2048 .f32) (hz : ∀ i, (z i : EReal) = 0) (u w : FVec Ideal S16x2048 .f32) (r : Fin 128) (j : Fin 2048) :
    wput z u w (ix3 0 r j) = if h : r.val < 16 then (u (ix2 ⟨r.val, h⟩ j) : EReal) else 0 :=
  planes (fun _ => 0#32) (fun _ => 0#32) (fun _ => 1#32) (fun _ => 16#32) rfl rfl rfl z hz u w r j

theorem wzero_at (i : S2x128x2048.Idx) : (wzero i : EReal) = 0 := by
  unfold wzero
  pointwise

theorem wsrc_at (c : Dev nD) (r : Fin 16) (j : Fin 2048) : wsrc m c 0 (ix2 r j) = m ((c : Thread nD τ).loc main_arg2) (ix4 0 0 r j) := by
  unfold wsrc
  clean_types
  pointwise

theorem V_wdir (c : Dev nD) : V m c main_v14 = truncf .bf16 (wput wzero (wsrc m c 0) (wsrc m c 1)) bitsLt_bf16_f32 := by
  unfold V
  after_reads_simp
  rw [word_v4, word_v5, word_v10, word_v11]
  rfl

theorem trunc_at (x : FVec Ideal S2x128x2048 .f32) (i : S2x128x2048.Idx) : truncf .bf16 x bitsLt_bf16_f32 i = x i := rfl

theorem V_w (c : Dev nD) (r : Fin 128) (j : Fin 2048) : (show EReal from V m c main_v14 (ix3 0 r j))
    = if h : r.val < 16 then (show EReal from m ((c : Thread nD τ).loc main_arg2) (ix4 0 0 ⟨r.val, h⟩ j)) else 0 := by
  refine (congrFun (V_wdir m c) _).trans ((trunc_at _ _).trans ((wput_at _ wzero_at _ _ r j).trans ?_))
  by_cases h : r.val < 16
  · rw [dif_pos h, dif_pos h]
    exact wsrc_at m c ⟨r.val, h⟩ j
  · rw [dif_neg h, dif_neg h]

/-- The block of each window at a point: sequence `t / 2`, pair of heads `t % 2`. -/
theorem idx (t : Fin cfg0.N) : win0_1.index t = ![t.val / 2, 2 + t.val % 2] ∧ win0_2.index t = ![t.val / 2, 2 + t.val % 2]
    ∧ win0_3.index t = ![t.val / 2, 0] ∧ win0_4.index t = ![0, 0, t.val % 2] ∧ win0_5.index t = ![0, 0, t.val % 2]
    ∧ win0_7.index t = ![0, 0] ∧ win0_9.index t = ![t.val / 2, 0, t.val % 2, 0, 0] := by
  decide +kernel +revert

end Cert.GlaStateIdeal.Hand

end
-- ==== Proof.GlaFinal.lean ====
module

public import proofs.«01_k».proof.Proof.GlaState
public import proofs.«01_k».proof.Proof.GlaEntry

@[expose] public section

set_option maxRecDepth 16384
set_option maxHeartbeats 200000

noncomputable section

open Idealize.ShloMosaic Idealize.ShloMosaic.TcCoe Idealize.SL.Sem
open Idealize.ShloMosaic.Pipeline (Dat)

namespace Cert.GlaStateIdeal.Hand

open Cert.GlaStateIdeal Cert.GlaStateIdeal.Gen

variable (m : (ℓ : Loc nD τ sig) → Buf (Elt Ideal) ℓ) (ρ : Dev nD → PrngReg)

theorem V_p (c : Dev nD) (r : Fin 8192) (j : Fin 12288) : V m c main_arg0 (ix2 r j) = m ((c : Thread nD τ).loc main_arg0) (ix2 r j) :=
  congrFun (V_main_arg0 m c) _

theorem V_l (c : Dev nD) (r : Fin 8192) (j : Fin 128) : V m c main_arg1 (ix2 r j) = m ((c : Thread nD τ).loc main_arg1) (ix2 r j) :=
  congrFun (V_main_arg1 m c) _

theorem rd_1 (t : Fin cfg0.N) (f : (cfg0.win 1).arr.view.ty.Contents (Elt Ideal)) (s : Fin 256) (j : Fin 1024) :
    ((cfg0.win 1).blk t).view.read (Elt Ideal) f (ix2 s j) = (show FVec Ideal S8192x12288 .f32 from f) (ix2 (⟨t.val / 2 * 256 + s.val, by have : t.val < 64 := t.isLt; omega⟩ : Fin 8192) (⟨(2 + t.val % 2) * 1024 + j.val, by omega⟩ : Fin 12288)) := by
  have e : (win0_1.blk t).view.emb (ix2 s j) = (ix2 (⟨t.val / 2 * 256 + s.val, by have : t.val < 64 := t.isLt; omega⟩ : Fin 8192) (⟨(2 + t.val % 2) * 1024 + j.val, by omega⟩ : Fin 12288)) := by blk_ext [idx t]
  exact (View.read_apply _ _).trans (congrArg (show FVec Ideal S8192x12288 .f32 from f) e)

theorem rd_2 (t : Fin cfg0.N) (f : (cfg0.win 2).arr.view.ty.Contents (Elt Ideal)) (s : Fin 256) (j : Fin 2048) :
    ((cfg0.win 2).blk t).view.read (Elt Ideal) f (ix2 s j) = (show FVec Ideal S8192x12288 .f32 from f) (ix2 (⟨t.val / 2 * 256 + s.val, by have : t.val < 64 := t.isLt; omega⟩ : Fin 8192) (⟨(2 + t.val % 2) * 2048 + j.val, by omega⟩ : Fin 12288)) := by
  have e : (win0_2.blk t).view.emb (ix2 s j) = (ix2 (⟨t.val / 2 * 256 + s.val, by have : t.val < 64 := t.isLt; omega⟩ : Fin 8192) (⟨(2 + t.val % 2) * 2048 + j.val, by omega⟩ : Fin 12288)) := by blk_ext [idx t]
  exact (View.read_apply _ _).trans (congrArg (show FVec Ideal S8192x12288 .f32 from f) e)

theorem rd_3 (t : Fin cfg0.N) (f : (cfg0.win 3).arr.view.ty.Contents (Elt Ideal)) (s : Fin 256) (r : Fin 128) :
    ((cfg0.win 3).blk t).view.read (Elt Ideal) f (ix2 s r) = (show FVec Ideal S8192x128 .f32 from f) (ix2 (⟨t.val / 2 * 256 + s.val, by have : t.val < 64 := t.isLt; omega⟩ : Fin 8192) r) := by
  have e : (win0_3.blk t).view.emb (ix2 s r) = (ix2 (⟨t.val / 2 * 256 + s.val, by have : t.val < 64 := t.isLt; omega⟩ : Fin 8192) r) := by blk_ext [idx t]
  exact (View.read_apply _ _).trans (congrArg (show FVec Ideal S8192x128 .f32 from f) e)

theorem rd_4 (t : Fin cfg0.N) (f : (cfg0.win 4).arr.view.ty.Contents (Elt Ideal)) (r : Fin 128) (j : Fin 1024) :
    ((cfg0.win 4).blk t).view.read (Elt Ideal) f (ix3 0 r j) = (show FVec Ideal S2x128x2048 .bf16 from f) (ix3 0 r (⟨t.val % 2 * 1024 + j.val, by omega⟩ : Fin 2048)) := by
  have e : (win0_4.blk t).view.emb (ix3 0 r j) = (ix3 0 r (⟨t.val % 2 * 1024 + j.val, by omega⟩ : Fin 2048)) := by blk_ext [idx t]
  exact (View.read_apply _ _).trans (congrArg (show FVec Ideal S2x128x2048 .bf16 from f) e)

theorem rd_5 (t : Fin cfg0.N) (f : (cfg0.win 5).arr.view.ty.Contents (Elt Ideal)) (j : Fin 1024) :
    ((cfg0.win 5).blk t).view.read (Elt Ideal) f (ix3 0 0 j) = (show FVec Ideal S2x1x2048 .f32 from f) (ix3 0 0 (⟨t.val % 2 * 1024 + j.val, by omega⟩ : Fin 2048)) := by
  have e : (win0_5.blk t).view.emb (ix3 0 0 j) = (ix3 0 0 (⟨t.val % 2 * 1024 + j.val, by omega⟩ : Fin 2048)) := by blk_ext [idx t]
  exact (View.read_apply _ _).trans (congrArg (show FVec Ideal S2x1x2048 .f32 from f) e)

theorem rd_7 (t : Fin cfg0.N) (f : (cfg0.win 7).arr.view.ty.Contents (Elt Ideal)) (s : Fin 256) (k : Fin 768) :
    ((cfg0.win 7).blk t).view.read (Elt Ideal) f (ix2 s k) = (show FVec Ideal S256x768 .bf16 from f) (ix2 s k) := by
  have e : (win0_7.blk t).view.emb (ix2 s k) = (ix2 s k) := by blk_ext [idx t]
  exact (View.read_apply _ _).trans (congrArg (show FVec Ideal S256x768 .bf16 from f) e)

theorem blk_k (c : Dev nD) (t : Fin cfg0.N) (s : Fin 256) (j : Fin 1024) : iblk m c 1 t (ix2 s j)
    = m ((c : Thread nD τ).loc main_arg0) (ix2 (⟨t.val / 2 * 256 + s.val, by have : t.val < 64 := t.isLt; omega⟩ : Fin 8192) (⟨(2 + t.val % 2) * 1024 + j.val, by omega⟩ : Fin 12288)) :=
  (rd_1 t (V m c main_arg0) s j).trans (V_p m c _ _)

theorem blk_v (c : Dev nD) (t : Fin cfg0.N) (s : Fin 256) (j : Fin 2048) : iblk m c 2 t (ix2 s j)
    = m ((c : Thread nD τ).loc main_arg0) (ix2 (⟨t.val / 2 * 256 + s.val, by have : t.val < 64 := t.isLt; omega⟩ : Fin 8192) (⟨(2 + t.val % 2) * 2048 + j.val, by omega⟩ : Fin 12288)) :=
  (rd_2 t (V m c main_arg0) s j).trans (V_p m c _ _)

theorem blk_low (c : Dev nD) (t : Fin cfg0.N) (s : Fin 256) (r : Fin 128) : iblk m c 3 t (ix2 s r)
    = m ((c : Thread nD τ).loc main_arg1) (ix2 (⟨t.val / 2 * 256 + s.val, by have : t.val < 64 := t.isLt; omega⟩ : Fin 8192) r) :=
  (rd_3 t (V m c main_arg1) s r).trans (V_l m c _ _)

theorem blk_w (c : Dev nD) (t : Fin cfg0.N) (r : Fin 128) (j : Fin 1024) : (show EReal from iblk m c 4 t (ix3 0 r j))
    = if h : r.val < 16 then (show EReal from m ((c : Thread nD τ).loc main_arg2) (ix4 0 0 ⟨r.val, h⟩ (⟨t.val % 2 * 1024 + j.val, by omega⟩ : Fin 2048))) else 0 :=
  (rd_4 t (V m c main_v14) r j).trans (V_w m c r _)

theorem blk_b (c : Dev nD) (t : Fin cfg0.N) (j : Fin 1024) : iblk m c 5 t (ix3 0 0 j)
    = m ((c : Thread nD τ).loc main_arg3) (ix3 0 0 (⟨t.val % 2 * 1024 + j.val, by omega⟩ : Fin 2048)) :=
  (rd_5 t (V m c main_v16) j).trans (V_b m c _)

theorem blk_t (c : Dev nD) (t : Fin cfg0.N) (s : Fin 256) (k : Fin 768) : (show EReal from iblk m c 7 t (ix2 s k)) = if k.val % 256 ≤ s.val then 1 else 0 :=
  (rd_7 t (V m c main_v47) s k).trans (V_t m c s k)

end Cert.GlaStateIdeal.Hand

end
-- ==== Proof.GlaTop.lean ====
module

public import proofs.«01_k».proof.Proof.GlaFinal

@[expose] public section

set_option maxRecDepth 16384
set_option maxHeartbeats 200000

noncomputable section

open Idealize.ShloMosaic Idealize.ShloMosaic.TcCoe Idealize.SL.Sem
open Idealize.ShloMosaic.Pipeline (Dat)

namespace Cert.GlaStateIdeal.Hand

open Cert.GlaStateIdeal Cert.GlaStateIdeal.Gen

open Cert.Proof.GlaMath (ls spec)

/-- The state a body leaves, both its heads. -/
def heads (g : FVec Ideal S256x1024 .f32) (x1 : FVec Ideal S256x1024 .f32) (x2 : FVec Ideal S256x2048 .f32) : FVec Ideal S1x1x2x512x1024 .f32 :=
  View.canon [(⟨Rect.unit (s := S1x1x2x512x1024) ![0, 0, 1, 0, 0] S1x1x1x512x1024.size inb_S1x1x2x512x1024_S1x1x1x512x1024_0_0_1_0_0, head1 g x1 x2⟩ : View.Piece (Elt Ideal) S1x1x2x512x1024 .f32),
      (⟨Rect.unit (s := S1x1x2x512x1024) ![0, 0, 0, 0, 0] S1x1x1x512x1024.size inb_S1x1x2x512x1024_S1x1x1x512x1024_0_0_0_0_0, head0 g x1 x2⟩ : View.Piece (Elt Ideal) S1x1x2x512x1024 .f32)]

theorem heads_at1 (g : FVec Ideal S256x1024 .f32) (x1 : FVec Ideal S256x1024 .f32) (x2 : FVec Ideal S256x2048 .f32) (i : Fin 512) (e : Fin 1024) :
    heads g x1 x2 (ix5 0 0 1 i e) = fin g x1 x2 ⟨512 + i.val, by omega⟩ ⟨1024 + e.val, by omega⟩ := by
  have he : (Rect.unit (s := S1x1x2x512x1024) ![0, 0, 1, 0, 0] S1x1x1x512x1024.size inb_S1x1x2x512x1024_S1x1x1x512x1024_0_0_1_0_0).emb (ix5 0 0 0 i e) = ix5 0 0 1 i e := by
    funext a; fin_cases a <;> (apply Fin.ext; simp [Rect.unit, Rect.emb])
  unfold heads
  rw [← he, View.canon_cons_emb]
  exact head1_at g x1 x2 i e

theorem canon_snd {Val : EltTy → Type} [∀ e, Nonempty (Val e)] {S : Shape} {e : EltTy} (r r' : Rect S) (w : r.shape.Idx → Val e) (w' : r'.shape.Idx → Val e)
    (x : r'.shape.Idx) (y : S.Idx) (h : r'.emb x = y) (hn : y ∉ r.set) : View.canon [(⟨r, w⟩ : View.Piece Val S e), ⟨r', w'⟩] y = w' x := by
  refine (View.canon_cons_of_not_mem _ _ hn).trans ?_
  subst h
  exact View.canon_cons_emb _ _ _ _

theorem not_head1 (i : Fin 512) (e : Fin 1024) : (ix5 0 0 0 i e : S1x1x2x512x1024.Idx) ∉ (Rect.unit (s := S1x1x2x512x1024) ![0, 0, 1, 0, 0] S1x1x1x512x1024.size inb_S1x1x2x512x1024_S1x1x1x512x1024_0_0_1_0_0).set := fun h =>
  absurd ((Rect.mem_set_unit (inb := inb_S1x1x2x512x1024_S1x1x1x512x1024_0_0_1_0_0)).1 h 2).1 (by show ¬ (1 ≤ 0); omega)

theorem heads_at0 (g : FVec Ideal S256x1024 .f32) (x1 : FVec Ideal S256x1024 .f32) (x2 : FVec Ideal S256x2048 .f32) (i : Fin 512) (e : Fin 1024) :
    heads g x1 x2 (ix5 0 0 0 i e) = fin g x1 x2 ⟨i.val, by omega⟩ ⟨e.val, by omega⟩ := by
  have he : (Rect.unit (s := S1x1x2x512x1024) ![0, 0, 0, 0, 0] S1x1x1x512x1024.size inb_S1x1x2x512x1024_S1x1x1x512x1024_0_0_0_0_0).emb (ix5 0 0 0 i e) = ix5 0 0 0 i e := by
    funext a; fin_cases a <;> (apply Fin.ext; simp [Rect.unit, Rect.emb])
  exact (canon_snd _ _ _ _ _ _ he (not_head1 i e)).trans (head0_at g x1 x2 i e)

theorem fin_at (g : FVec Ideal S256x1024 .f32) (x1 : FVec Ideal S256x1024 .f32) (x2 : FVec Ideal S256x2048 .f32) (x : ℕ → ℝ) (j : Fin 1024) (q : Fin 2048)
    (hg : ∀ t : Fin 256, g (ix2 t j) = ((∑ r ∈ Finset.range (t.val + 1), ls (x r) * (16 * Real.log 2)⁻¹ : ℝ) : EReal)) :
    fin g x1 x2 j q = spec (fun s => x1 (ix2 s j)) (fun s => x2 (ix2 s q)) x :=
  Cert.Proof.GlaMath.sum_last (fun s => x1 (ix2 s j)) (fun s => x2 (ix2 s q)) (fun s => g (ix2 s j)) x hg

variable (m : (ℓ : Loc nD τ sig) → Buf (Elt Ideal) ℓ) (ρ : Dev nD → PrngReg)

/-- The forward gate's logit at a token and a key column. -/
def logit (a1 : FVec Ideal S8192x128 .f32) (a2 : FVec Ideal S1x2x16x2048 .f32) (a3 : FVec Ideal S1x2x2048 .f32) (r : Fin 8192) (j : Fin 2048) : EReal :=
  (∑ k : Fin 16, (a1 (ix2 r ⟨k.val, by omega⟩) : EReal) * (a2 (ix4 0 0 k j) : EReal)) + (a3 (ix3 0 0 j) : EReal)

/-- The gates' logits of a batch element are the reals `x`. -/
def Reals (a1 : FVec Ideal S8192x128 .f32) (a2 : FVec Ideal S1x2x16x2048 .f32) (a3 : FVec Ideal S1x2x2048 .f32) (x : Fin 32 → ℕ → Fin 2048 → ℝ) : Prop :=
  ∀ (b : Fin 32) (s : Fin 256) (j : Fin 2048), logit a1 a2 a3 ⟨b.val * 256 + s.val, by omega⟩ j = ((x b s.val j : ℝ) : EReal)

/-- The forward state at batch element `b`, head `h`, key column `i`, value column `e`. -/
def stateOf (a0 : FVec Ideal S8192x12288 .f32) (x : Fin 32 → ℕ → Fin 2048 → ℝ) (b : Fin 32) (h : Fin 4) (i : Fin 512) (e : Fin 1024) : EReal :=
  spec (fun s => a0 (ix2 ⟨b.val * 256 + s.val, by omega⟩ ⟨2048 + h.val * 512 + i.val, by omega⟩)) (fun s => a0 (ix2 ⟨b.val * 256 + s.val, by omega⟩ ⟨4096 + h.val * 1024 + e.val, by omega⟩))
    fun s => x b s ⟨h.val * 512 + i.val, by omega⟩

theorem logit_blk (c : Dev nD) (x : Fin 32 → ℕ → Fin 2048 → ℝ)
    (hx : Reals (m ((c : Thread nD τ).loc main_arg1)) (m ((c : Thread nD τ).loc main_arg2)) (m ((c : Thread nD τ).loc main_arg3)) x)
    (t : Fin cfg0.N) (s : Fin 256) (j : Fin 1024) :
    (∑ r : Fin 128, ((show FVec Ideal S256x128 .f32 from iblk m c 3 t) (ix2 s r) : EReal) * ((show FVec Ideal S1x128x1024 .bf16 from iblk m c 4 t) (ix3 0 r j) : EReal))
      + ((show FVec Ideal S1x1x1024 .f32 from iblk m c 5 t) (ix3 0 0 j) : EReal)
      = ((x ⟨t.val / 2, by have : t.val < 64 := t.isLt; omega⟩ s.val ⟨t.val % 2 * 1024 + j.val, by omega⟩ : ℝ) : EReal) := by
  refine Eq.trans ?_ (hx ⟨t.val / 2, by have : t.val < 64 := t.isLt; omega⟩ s ⟨t.val % 2 * 1024 + j.val, by omega⟩)
  unfold logit
  refine congrArg₂ (fun a b : EReal => a + b) ?_ (blk_b m c t j)
  refine (Finset.sum_congr rfl fun r _ => congrArg₂ (fun a b : EReal => a * b) (blk_low m c t s r) (blk_w m c t r j)).trans ?_
  exact Cert.Proof.GlaMath.sum_pad (fun r => m ((c : Thread nD τ).loc main_arg1) (ix2 _ r)) fun r => m ((c : Thread nD τ).loc main_arg2) (ix4 0 0 r _)

theorem rd_9 (t : Fin cfg0.N) (f : (cfg0.win 9).arr.view.ty.Contents (Elt Ideal)) (p : Fin 2) (i : Fin 512) (e : Fin 1024) :
    ((cfg0.win 9).blk t).view.read (Elt Ideal) f (ix5 0 0 p i e) = (show FVec Ideal S32x2x4x512x1024 .f32 from f) (ix5 (⟨t.val / 2, by have : t.val < 64 := t.isLt; omega⟩ : Fin 32) 0 (⟨t.val % 2 * 2 + p.val, by omega⟩ : Fin 4) i e) := by
  have h : (win0_9.blk t).view.emb (ix5 0 0 p i e) = ix5 (⟨t.val / 2, by have : t.val < 64 := t.isLt; omega⟩ : Fin 32) 0 (⟨t.val % 2 * 2 + p.val, by omega⟩ : Fin 4) i e := by blk_ext [idx t]
  exact (View.read_apply _ _).trans (congrArg (show FVec Ideal S32x2x4x512x1024 .f32 from f) h)

theorem flush9 (t : Fin cfg0.N) : (cfg0.win 9).flush t = true :=
  (by decide +kernel : ∀ t : Fin cfg0.N, (cfg0.win 9).flush t = true) t

theorem arr9_at (c : Dev nD) (t : Fin cfg0.N) (p : Fin 2) (i : Fin 512) (e : Fin 1024) :
    (show FVec Ideal S32x2x4x512x1024 .f32 from (dats m 0 c).arrAt 9 cfg0.N) (ix5 (⟨t.val / 2, by have : t.val < 64 := t.isLt; omega⟩ : Fin 32) 0 (⟨t.val % 2 * 2 + p.val, by omega⟩ : Fin 4) i e)
      = heads (k0_pay7 (F := Ideal) (iblk m c 3 t) (iblk m c 4 t) (iblk m c 5 t) (iblk m c 7 t)) (iblk m c 1 t) (iblk m c 2 t) (ix5 0 0 p i e) := by
  refine (rd_9 t _ p i e).symm.trans ((congrFun (Value.blocks9 m c t (flush9 t)) (ix5 0 0 p i e)).trans ?_)
  rw [Value.flushed9_A]
  unfold heads
  rw [outp]
  rfl

theorem spec_congr {K W K' W' : Fin 256 → EReal} {x x' : ℕ → ℝ} (hK : ∀ s, K s = K' s) (hW : ∀ s, W s = W' s) (hx : x = x') : spec K W x = spec K' W' x' := by
  rw [funext hK, funext hW, hx]

theorem state_at (c : Dev nD) (x : Fin 32 → ℕ → Fin 2048 → ℝ)
    (hx : Reals (m ((c : Thread nD τ).loc main_arg1)) (m ((c : Thread nD τ).loc main_arg2)) (m ((c : Thread nD τ).loc main_arg3)) x)
    (t : Fin cfg0.N) (p : Fin 2) (i : Fin 512) (e : Fin 1024) :
    (show FVec Ideal S32x2x4x512x1024 .f32 from (dats m 0 c).arrAt 9 cfg0.N) (ix5 (⟨t.val / 2, by have : t.val < 64 := t.isLt; omega⟩ : Fin 32) 0 (⟨t.val % 2 * 2 + p.val, by omega⟩ : Fin 4) i e)
      = stateOf (m ((c : Thread nD τ).loc main_arg0)) x (⟨t.val / 2, by have : t.val < 64 := t.isLt; omega⟩ : Fin 32) (⟨t.val % 2 * 2 + p.val, by omega⟩ : Fin 4) i e := by
  refine (arr9_at m c t p i e).trans ?_
  have hg : ∀ (j : Fin 1024) (s : Fin 256), _ := fun j s => pay7_at (iblk m c 3 t) (iblk m c 4 t) (iblk m c 5 t) (iblk m c 7 t)
    (fun s j => x ⟨t.val / 2, by have : t.val < 64 := t.isLt; omega⟩ s ⟨t.val % 2 * 1024 + j.val, by omega⟩) (logit_blk m c x hx t) (blk_t m c t) s j
  generalize k0_pay7 (F := Ideal) (iblk m c 3 t) (iblk m c 4 t) (iblk m c 5 t) (iblk m c 7 t) = g at hg
  have hp : p = 0 ∨ p = 1 := by omega
  unfold stateOf
  rcases hp with rfl | rfl
  · refine (heads_at0 g _ _ i e).trans ((fin_at g _ _ _ _ _ (hg _)).trans (spec_congr (fun s => (blk_k m c t s _).trans ?_) (fun s => (blk_v m c t s _).trans ?_) ?_))
    · exact congrArg (fun z => m ((c : Thread nD τ).loc main_arg0) (ix2 _ z)) (Fin.ext (by simp; omega))
    · exact congrArg (fun z => m ((c : Thread nD τ).loc main_arg0) (ix2 _ z)) (Fin.ext (by simp; omega))
    · exact funext fun s => congrArg (x _ s) (Fin.ext (by simp; omega))
  · refine (heads_at1 g _ _ i e).trans ((fin_at g _ _ _ _ _ (hg _)).trans (spec_congr (fun s => (blk_k m c t s _).trans ?_) (fun s => (blk_v m c t s _).trans ?_) ?_))
    · exact congrArg (fun z => m ((c : Thread nD τ).loc main_arg0) (ix2 _ z)) (Fin.ext (by simp; omega))
    · exact congrArg (fun z => m ((c : Thread nD τ).loc main_arg0) (ix2 _ z)) (Fin.ext (by simp; omega))
    · exact funext fun s => congrArg (x _ s) (Fin.ext (by simp; omega))

theorem final9 (c : Dev nD) (x : Fin 32 → ℕ → Fin 2048 → ℝ)
    (hx : Reals (m ((c : Thread nD τ).loc main_arg1)) (m ((c : Thread nD τ).loc main_arg2)) (m ((c : Thread nD τ).loc main_arg3)) x)
    (b : Fin 32) (h : Fin 4) (i : Fin 512) (e : Fin 1024) :
    (show FVec Ideal S32x2x4x512x1024 .f32 from (dats m 0 c).arrAt 9 cfg0.N) (ix5 b 0 h i e) = stateOf (m ((c : Thread nD τ).loc main_arg0)) x b h i e := by
  obtain ⟨t, p, hb, hh⟩ : ∃ (t : Fin cfg0.N) (p : Fin 2), (⟨t.val / 2, by have : t.val < 64 := t.isLt; omega⟩ : Fin 32) = b ∧ (⟨t.val % 2 * 2 + p.val, by omega⟩ : Fin 4) = h :=
    ⟨⟨b.val * 2 + h.val / 2, by show _ < 64; omega⟩, ⟨h.val % 2, by omega⟩, Fin.ext (by simp; omega), Fin.ext (by simp; omega)⟩
  subst hb
  subst hh
  exact state_at m c x hx t p i e

end Cert.GlaStateIdeal.Hand

end
-- ==== Proof.GlaStateRef.lean ====
module

public import proofs.«01_k».proof.Proof.GlaTop
public import proofs.«01_k».proof.Proof.Gen.GlaStateRefIdeal.StepRun
public import Idealize.ShloMosaic.Lib.DynamicIndex

@[expose] public section

set_option maxRecDepth 16384
set_option maxHeartbeats 60000

noncomputable section

open Idealize.ShloMosaic Idealize.ShloMosaic.TcCoe Idealize.SL.Sem

namespace Cert.GlaStateRefIdeal.Hand

open Cert.GlaStateRefIdeal Cert.GlaStateRefIdeal.Gen Cert.GlaStateRefIdeal.Step

open Cert.Proof.GlaMath (ls spec)
open Cert.GlaStateIdeal.Hand (logit Reals stateOf)

variable (a0 : FVec Ideal S8192x12288 .f32) (a1 : FVec Ideal S8192x128 .f32) (a2 : FVec Ideal S1x2x16x2048 .f32) (a3 : FVec Ideal S1x2x2048 .f32)

theorem k_at (j : Fin 256) (b : Fin 32) (h : Fin 4) (i : Fin 512) : A_main_v24 (F := Ideal) a0 a1 a2 a3 (ix4 j b h i)
    = a0 (ix2 (⟨b.val * 256 + j.val, by omega⟩ : Fin 8192) (⟨2048 + h.val * 512 + i.val, by omega⟩ : Fin 12288)) := by
  unfold A_main_v24 A_main_v2 A_main_v1 A_main_v0
  clean_types
  pointwise
  exact congrArg (fun z => a0 (ix2 _ z)) (Fin.ext (Nat.add_assoc _ _ _).symm)

theorem v_at (j : Fin 256) (b : Fin 32) (h : Fin 4) (i : Fin 1024) : A_main_v25 (F := Ideal) a0 a1 a2 a3 (ix4 j b h i)
    = a0 (ix2 (⟨b.val * 256 + j.val, by omega⟩ : Fin 8192) (⟨4096 + h.val * 1024 + i.val, by omega⟩ : Fin 12288)) := by
  unfold A_main_v25 A_main_v5 A_main_v4 A_main_v3
  clean_types
  pointwise
  exact congrArg (fun z => a0 (ix2 _ z)) (Fin.ext (Nat.add_assoc _ _ _).symm)

theorem g_at (j : Fin 256) (b : Fin 32) (h : Fin 4) (i : Fin 512) : A_main_v26 (F := Ideal) a0 a1 a2 a3 (ix4 j b h i)
    = A_main_v20 (F := Ideal) a0 a1 a2 a3 (ix2 (⟨b.val * 256 + j.val, by omega⟩ : Fin 8192) (⟨h.val * 512 + i.val, by omega⟩ : Fin 2048)) := by
  unfold A_main_v26 A_main_v22 A_main_v21
  generalize A_main_v20 (F := Ideal) a0 a1 a2 a3 = G
  clean_types
  pointwise

theorem l_at (r : Fin 8192) (j : Fin 2048) : A_main_v14 (F := Ideal) a0 a1 a2 a3 (ix2 r j) = logit a1 a2 a3 r j := by
  unfold A_main_v14 A_main_v13 A_main_v12 A_main_v11 A_main_v10 A_main_v9 A_main_v8 A_main_v7 A_main_v6 logit
  clean_types
  pointwise

theorem lit_16 : Ideal.ofBits .f32 0x41800000#32 = ((16 : ℝ) : EReal) := by
  simp [Ideal.ofBits, Ideal.ieee, -EReal.coe_mul]
  norm_num

theorem gate_at (r : Fin 8192) (j : Fin 2048) : A_main_v20 (F := Ideal) a0 a1 a2 a3 (ix2 r j)
    = Ideal.div (-(Ideal.log1p (Ideal.exp (-(logit a1 a2 a3 r j))))) ((16 : ℝ) : EReal) := by
  rw [← l_at]
  unfold A_main_v20 A_main_v18 A_main_v17 A_main_v16 A_main_v15 K_main_v19 K_main_cst
  generalize A_main_v14 (F := Ideal) a0 a1 a2 a3 = G
  clean_types
  pointwise
  rw [lit_16]

theorem trip_slice {n : Nat} (j : Fin 256) (x : FVec Ideal (⟨4, ![256, 32, 4, n]⟩ : Shape) .f32) (h : (⟨4, ![256, 32, 4, n]⟩ : Shape).Slices (fun _ => 0) ⟨4, ![1, 32, 4, n]⟩)
    (w z1 z2 z3 : IVec S_ 32) (hw : w = constantI S_ 32 (BitVec.ofNat 32 j.val)) (h1 : z1 = constantI S_ 32 0#32) (h2 : z2 = constantI S_ 32 0#32) (h3 : z3 = constantI S_ 32 0#32)
    (b : Fin 32) (c : Fin 4) (i : Fin n) :
    Host.dynamicSlice (⟨4, ![1, 32, 4, n]⟩ : Shape) x (fun k => ((![w, z1, z2, z3] : Fin 4 → IVec S_ 32) k (Shape.Idx.first h_S_)).toInt) h (ix4 0 b c i) = x (ix4 j b c i) := by
  have hk : (⟨4, ![256, 32, 4, n]⟩ : Shape).Slices ![j.val, 0, 0, 0] ⟨4, ![1, 32, 4, n]⟩ :=
    ⟨rfl, fun a => by fin_cases a <;> simp⟩
  subst hw h1 h2 h3
  refine (congrFun (Host.dynamicSlice_eq_extractStridedSlice _ x _ ![j.val, 0, 0, 0] h hk fun a => ?_) _).trans ?_
  · fin_cases a
    · exact toInt_ofNat_of_lt (by omega)
    all_goals rfl
  · refine congrArg x ?_
    funext a
    fin_cases a <;> (apply Fin.ext; simp)

theorem step_at (j : Fin 256) (s : State Ideal) (b : Fin 32) (h : Fin 4) (i : Fin 512) (e : Fin 1024) :
    (step j.val s).main_v27_4 (ix4 b h i e) = Ideal.exp (s.main_v27_2 (ix4 j b h i)) * s.main_v27_4 (ix4 b h i e)
      + (s.main_v27_0 (ix4 j b h i) : EReal) * (s.main_v27_1 (ix4 j b h e) : EReal) := by
  have e3 : b3 j.val s (ix4 0 b h i) = s.main_v27_0 (ix4 j b h i) := trip_slice j s.main_v27_0 _ _ _ _ _ rfl rfl rfl rfl b h i
  have e8 : b8 j.val s (ix4 0 b h e) = s.main_v27_1 (ix4 j b h e) := trip_slice j s.main_v27_1 _ _ _ _ _ rfl rfl rfl rfl b h e
  have e13 : b13 j.val s (ix4 0 b h i) = s.main_v27_2 (ix4 j b h i) := trip_slice j s.main_v27_2 _ _ _ _ _ rfl rfl rfl rfl b h i
  rw [step_main_v27_4, ← e3, ← e8, ← e13]
  unfold b24 b23 b22 b21 b20 b19 b18 b17 b16 b15 b14 b9 b4
  generalize b3 j.val s = B3
  generalize b8 j.val s = B8
  generalize b13 j.val s = B13
  clean_types
  pointwise

theorem result_at (s : State Ideal) (b : Fin 32) (h : Fin 4) (i : Fin 512) (e : Fin 1024) : R_main_v31 s (ix5 b 0 h i e) = s.main_v27_4 (ix4 b h i e) := by
  unfold R_main_v31
  generalize s.main_v27_4 = S
  clean_types
  pointwise

theorem zero_at (b : Fin 32) (h : Fin 4) (i : Fin 512) (e : Fin 1024) : (K_main_v23 (F := Ideal)) (ix4 b h i e) = (0 : EReal) := by
  unfold K_main_v23 K_main_cst_0
  clean_types
  pointwise

variable (m : (ℓ : Loc nD τ sig) → Buf (Elt Ideal) ℓ) (c : Dev nD)

/-- The states the loop goes through. -/
def states : ℕ → State Ideal
  | 0 => StepRun.initState m c
  | n + 1 => step n (states n)

theorem states_k : ∀ n, (states m c n).main_v27_0 = (StepRun.initState m c).main_v27_0
  | 0 => rfl
  | n + 1 => states_k n

theorem states_v : ∀ n, (states m c n).main_v27_1 = (StepRun.initState m c).main_v27_1
  | 0 => rfl
  | n + 1 => states_v n

theorem states_g : ∀ n, (states m c n).main_v27_2 = (StepRun.initState m c).main_v27_2
  | 0 => rfl
  | n + 1 => states_g n

theorem state_at (x : Fin 32 → ℕ → Fin 2048 → ℝ)
    (hx : Reals (m ((c : Thread nD τ).loc main_arg1)) (m ((c : Thread nD τ).loc main_arg2)) (m ((c : Thread nD τ).loc main_arg3)) x)
    (b : Fin 32) (h : Fin 4) (i : Fin 512) (e : Fin 1024) :
    (states m c 256).main_v27_4 (ix4 b h i e) = stateOf (m ((c : Thread nD τ).loc main_arg0)) x b h i e := by
  unfold stateOf
  refine Cert.Proof.GlaMath.scan _ _ _ (fun n => (states m c n).main_v27_4 (ix4 b h i e)) (zero_at b h i e) fun j => (step_at j (states m c j.val) b h i e).trans ?_
  rw [states_k, states_v, states_g]
  refine congrArg₂ (fun p q : EReal => p + q) ?_ (congrArg₂ (fun p q : EReal => p * q) (k_at (m ((c : Thread nD τ).loc main_arg0)) (m ((c : Thread nD τ).loc main_arg1)) (m ((c : Thread nD τ).loc main_arg2)) (m ((c : Thread nD τ).loc main_arg3)) j b h i) (v_at (m ((c : Thread nD τ).loc main_arg0)) (m ((c : Thread nD τ).loc main_arg1)) (m ((c : Thread nD τ).loc main_arg2)) (m ((c : Thread nD τ).loc main_arg3)) j b h e))
  refine congrArg (fun p : EReal => Ideal.exp p * _) ?_
  refine (g_at (m ((c : Thread nD τ).loc main_arg0)) (m ((c : Thread nD τ).loc main_arg1)) (m ((c : Thread nD τ).loc main_arg2)) (m ((c : Thread nD τ).loc main_arg3)) j b h i).trans ((gate_at _ _ _ _ _ _).trans ?_)
  rw [hx b j]
  exact Cert.Proof.GlaMath.ref_gate _

end Cert.GlaStateRefIdeal.Hand

end
-- ==== Proof.GlaAll.lean ====
module

public import proofs.«01_k».proof.Proof.GlaStateRef
public import proofs.«01_k».proof.Proof.Gen.Pre_gates_finite
public import proofs.«01_k».proof.Proof.Gen.On_forward
public import Idealize.ShloMosaic.Lib.ReduceAll

@[expose] public section

set_option maxRecDepth 16384
set_option maxHeartbeats 60000

noncomputable section

open Idealize.ShloMosaic Idealize.ShloMosaic.TcCoe Idealize.SL.Sem

namespace Cert.Proof.GlaState

open Cert.GlaStateIdeal.Hand (logit Reals stateOf)

theorem real_of (x : Ideal .f32) (h : FloatOps.cmpf (F := Ideal) (φ := .f32) .olt (FloatOps.hostAbsf x) (FloatOps.ofBits (F := Ideal) .f32 0x7F800000#32) = 1#1) :
    ∃ r : ℝ, (x : EReal) = (r : EReal) := by
  have htop : Ideal.ofBits .f32 0x7F800000#32 = ⊤ := by simp [Ideal.ofBits, Ideal.ieee]
  have h1 : max (x : EReal) (-(x : EReal)) < ⊤ := htop ▸ (Ideal.cmp_olt_eq_one _ _).1 h
  have h2 := max_lt_iff.1 h1
  refine ⟨(x : EReal).toReal, (EReal.coe_toReal h2.1.ne ?_).symm⟩
  intro hb
  have h3 := h2.2
  rw [hb] at h3
  simp at h3

section Finite

open Cert.Pre_gates_finite

variable (a0 : FVec Ideal S8192x12288 .f32) (a1 : FVec Ideal S8192x128 .f32) (a2 : FVec Ideal S1x2x16x2048 .f32) (a3 : FVec Ideal S1x2x2048 .f32)

theorem finite (h : Cert.Pre_gates_finite.fn (F := Ideal) a0 a1 a2 a3 = fun _ => 1#1) :
    (∀ (r : Fin 8192) (k : Fin 16), ∃ z : ℝ, (a1 (ix2 r (⟨k.val, by omega⟩ : Fin 128)) : EReal) = (z : EReal))
      ∧ (∀ (k : Fin 16) (j : Fin 2048), ∃ z : ℝ, (a2 (ix4 0 0 k j) : EReal) = (z : EReal))
      ∧ ∀ j : Fin 2048, ∃ z : ℝ, (a3 (ix3 0 0 j) : EReal) = (z : EReal) := by
  have e := congrFun h (Shape.Idx.first Facts.h_S_)
  unfold Cert.Pre_gates_finite.fn Cert.Pre_gates_finite.fn_part1 at e
  obtain ⟨e12, e3⟩ := IntOp.andi_eq_one.1 e
  obtain ⟨e1, e2⟩ := IntOp.andi_eq_one.1 e12
  refine ⟨fun r k => ?_, fun k j => ?_, fun j => ?_⟩
  · obtain ⟨z, hz⟩ := real_of _ (Host.reduce_andi_all _ _ _ _ _ e1 (ix2 r k))
    refine ⟨z, Eq.trans ?_ hz⟩
    clean_types
    pointwise
  · obtain ⟨z, hz⟩ := real_of _ (Host.reduce_andi_all _ _ _ _ _ e2 (ix2 k j))
    refine ⟨z, Eq.trans ?_ hz⟩
    clean_types
    pointwise
  · obtain ⟨z, hz⟩ := real_of _ (Host.reduce_andi_all _ _ _ _ _ e3 (ix1 j))
    refine ⟨z, Eq.trans ?_ hz⟩
    clean_types
    pointwise

theorem reals (h : Cert.Pre_gates_finite.fn (F := Ideal) a0 a1 a2 a3 = fun _ => 1#1) : ∃ x : Fin 32 → ℕ → Fin 2048 → ℝ, Reals a1 a2 a3 x := by
  obtain ⟨h1, h2, h3⟩ := finite a0 a1 a2 a3 h
  choose p hp using h1
  choose q hq using h2
  choose b hb using h3
  have hL : ∀ (r : Fin 8192) (j : Fin 2048), logit a1 a2 a3 r j = ((∑ k : Fin 16, p r k * q k j + b j : ℝ) : EReal) := fun r j => by
    unfold logit
    rw [EReal.coe_add, Cert.Proof.GlaMath.coe_sum, hb]
    refine congrArg (fun z : EReal => z + _) (Finset.sum_congr rfl fun k _ => ?_)
    rw [hp, hq, EReal.coe_mul]
  refine ⟨fun c s j => if hs : c.val * 256 + s < 8192 then ∑ k : Fin 16, p ⟨c.val * 256 + s, hs⟩ k * q k j + b j else 0, fun c s j => ?_⟩
  have hs : c.val * 256 + s.val < 8192 := by omega
  refine (hL _ j).trans (congrArg (fun z : ℝ => (z : EReal)) ?_)
  beta_reduce
  rw [dif_pos hs]

end Finite

theorem forward_axis (k : Fin 2) (h : IntOp.cmpi .eq (BitVec.ofNat 32 k.val) 0#32 = 1#1) : k = 0 := by
  revert k
  decide

/-- The kernel's forward state and its reference's are the same array. -/
theorem algebraic : Cert.algebraic_GlaStateIdeal_GlaStateRefIdeal_on_forward_pre_gates_finite := by
  intro m g m' g' hpre hagree
  refine ⟨fun c => (Cert.GlaStateIdeal.Gen.dats m 0 c).arrAt 9 Cert.GlaStateIdeal.cfg0.N, ?_, ?_⟩
  · exact (θ_run Cert.GlaStateIdeal.defs _ _).mono (fun _ h c => ⟨fun i _ => congrFun (h c).2.1 i, (h c).2.2⟩) (Cert.GlaStateIdeal.Value.run_blocks m g)
  · refine (θ_run Cert.GlaStateRefIdeal.defs _ _).mono (fun _ h c => ⟨fun i hi => (congrFun (h c).1 i).trans ?_, (h c).2⟩)
      (Cert.GlaStateRefIdeal.StepRun.run_iter m' g' (Cert.GlaStateRefIdeal.Hand.states m') (fun _ => rfl) (fun _ _ => rfl))
    obtain ⟨x, hx⟩ := reals _ _ _ _ (hpre c)
    have h1 : (i 1 : Fin 2) = (0 : Fin 2) := forward_axis (i 1) hi
    have ei : i = ix5 (i 0) 0 (i 2) (i 3) (i 4) := (eq_ix5 i).trans (congrArg (fun k : Fin 2 => ix5 (i 0) k (i 2) (i 3) (i 4)) h1)
    rw [ei]
    refine (Cert.GlaStateRefIdeal.Hand.result_at _ (i 0) (i 2) (i 3) (i 4)).trans ?_
    have hx' : Reals (m' ((c : Thread Cert.GlaStateRefIdeal.nD Cert.GlaStateRefIdeal.τ).loc Cert.GlaStateRefIdeal.main_arg1))
        (m' ((c : Thread Cert.GlaStateRefIdeal.nD Cert.GlaStateRefIdeal.τ).loc Cert.GlaStateRefIdeal.main_arg2))
        (m' ((c : Thread Cert.GlaStateRefIdeal.nD Cert.GlaStateRefIdeal.τ).loc Cert.GlaStateRefIdeal.main_arg3)) x := by
      rw [(hagree c).2.1, (hagree c).2.2.1, (hagree c).2.2.2]
      exact hx
    refine (Cert.GlaStateRefIdeal.Hand.state_at m' c x hx' (i 0) (i 2) (i 3) (i 4)).trans ?_
    rw [(hagree c).1]
    exact (Cert.GlaStateIdeal.Hand.final9 m c x hx (i 0) (i 2) (i 3) (i 4)).symm

end Cert.Proof.GlaState

end
-- ==== Proof.lean ====
module

public import proofs.«01_k».proof.Defs
public import proofs.«01_k».proof.Proof.SconvRef
public import proofs.«01_k».proof.Proof.HyenaRef
public import proofs.«01_k».proof.Proof.GlaIn
public import proofs.«01_k».proof.Proof.Out
public import proofs.«01_k».proof.Proof.LnSample
public import proofs.«01_k».proof.Proof.LnPrompt
public import proofs.«01_k».proof.Proof.Gen.Sconv
public import proofs.«01_k».proof.Proof.Gen.Sconv.Skeleton
public import proofs.«01_k».proof.Proof.Gen.Sconv.Launch
public import proofs.«01_k».proof.Proof.Gen.Sconv.Points
public import proofs.«01_k».proof.Proof.Gen.Sconv.Frame
public import proofs.«01_k».proof.Proof.Gen.SconvIdeal
public import proofs.«01_k».proof.Proof.Gen.SconvIdeal.Skeleton
public import proofs.«01_k».proof.Proof.Gen.SconvIdeal.Launch
public import proofs.«01_k».proof.Proof.Gen.SconvIdeal.Points
public import proofs.«01_k».proof.Proof.Gen.SconvIdeal.Frame
public import proofs.«01_k».proof.Proof.Gen.SconvRefIdeal
public import proofs.«01_k».proof.Proof.Gen.Hyena
public import proofs.«01_k».proof.Proof.Gen.Hyena.Skeleton
public import proofs.«01_k».proof.Proof.Gen.Hyena.Launch
public import proofs.«01_k».proof.Proof.Gen.Hyena.Points
public import proofs.«01_k».proof.Proof.Gen.Hyena.Frame
public import proofs.«01_k».proof.Proof.Gen.HyenaIdeal
public import proofs.«01_k».proof.Proof.Gen.HyenaIdeal.Skeleton
public import proofs.«01_k».proof.Proof.Gen.HyenaIdeal.Launch
public import proofs.«01_k».proof.Proof.Gen.HyenaIdeal.Points
public import proofs.«01_k».proof.Proof.Gen.HyenaIdeal.Frame
public import proofs.«01_k».proof.Proof.Gen.HyenaRefIdeal
public import proofs.«01_k».proof.Proof.Gen.GlaIn
public import proofs.«01_k».proof.Proof.Gen.GlaIn.Skeleton
public import proofs.«01_k».proof.Proof.Gen.GlaIn.Launch
public import proofs.«01_k».proof.Proof.Gen.GlaIn.Points
public import proofs.«01_k».proof.Proof.Gen.GlaIn.Frame
public import proofs.«01_k».proof.Proof.Gen.GlaInIdeal
public import proofs.«01_k».proof.Proof.Gen.GlaInIdeal.Skeleton
public import proofs.«01_k».proof.Proof.Gen.GlaInIdeal.Launch
public import proofs.«01_k».proof.Proof.Gen.GlaInIdeal.Points
public import proofs.«01_k».proof.Proof.Gen.GlaInIdeal.Frame
public import proofs.«01_k».proof.Proof.Gen.GlaInRefIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.LnSample
public import proofs.«01_k».proof.Proof.Gen.LnSample.Skeleton
public import proofs.«01_k».proof.Proof.Gen.LnSample.Launch
public import proofs.«01_k».proof.Proof.Gen.LnSample.Points
public import proofs.«01_k».proof.Proof.Gen.LnSample.Frame
public import proofs.«01_k».proof.Proof.Gen.LnSampleIdeal
public import proofs.«01_k».proof.Proof.Gen.LnSampleIdeal.Skeleton
public import proofs.«01_k».proof.Proof.Gen.LnSampleIdeal.Launch
public import proofs.«01_k».proof.Proof.Gen.LnSampleIdeal.Points
public import proofs.«01_k».proof.Proof.Gen.LnSampleIdeal.Frame
public import proofs.«01_k».proof.Proof.Gen.LnSampleRefIdeal
public import proofs.«01_k».proof.Proof.Gen.LnPrompt
public import proofs.«01_k».proof.Proof.Gen.LnPrompt.Skeleton
public import proofs.«01_k».proof.Proof.Gen.LnPrompt.Launch
public import proofs.«01_k».proof.Proof.Gen.LnPrompt.Points
public import proofs.«01_k».proof.Proof.Gen.LnPrompt.Frame
public import proofs.«01_k».proof.Proof.Gen.LnPromptIdeal
public import proofs.«01_k».proof.Proof.Gen.LnPromptIdeal.Skeleton
public import proofs.«01_k».proof.Proof.Gen.LnPromptIdeal.Launch
public import proofs.«01_k».proof.Proof.Gen.LnPromptIdeal.Points
public import proofs.«01_k».proof.Proof.Gen.LnPromptIdeal.Frame
public import proofs.«01_k».proof.Proof.Gen.LnPromptRefIdeal
public import proofs.«01_k».proof.Proof.Gen.SconvIdeal.Value
public import proofs.«01_k».proof.Proof.Gen.SconvRefIdeal.Run
public import proofs.«01_k».proof.Proof.Gen.HyenaIdeal.Value
public import proofs.«01_k».proof.Proof.Gen.HyenaRefIdeal.Run
public import proofs.«01_k».proof.Proof.Gen.GlaInIdeal.Value
public import proofs.«01_k».proof.Proof.Gen.GlaInRefIdeal.Run
public import proofs.«01_k».proof.Proof.Gen.OutIdeal.Value
public import proofs.«01_k».proof.Proof.Gen.OutRefIdeal.Run
public import proofs.«01_k».proof.Proof.Gen.LnSampleIdeal.Value
public import proofs.«01_k».proof.Proof.Gen.LnSampleRefIdeal.Run
public import proofs.«01_k».proof.Proof.Gen.LnPromptIdeal.Value
public import proofs.«01_k».proof.Proof.Gen.LnPromptRefIdeal.Run
public import proofs.«01_k».proof.Proof.Gen.GlaState
public import proofs.«01_k».proof.Proof.Gen.GlaState.Skeleton
public import proofs.«01_k».proof.Proof.Gen.GlaState.Launch
public import proofs.«01_k».proof.Proof.Gen.GlaState.Points
public import proofs.«01_k».proof.Proof.Gen.GlaState.Frame
public import proofs.«01_k».proof.Proof.Gen.GlaStateIdeal
public import proofs.«01_k».proof.Proof.Gen.GlaStateIdeal.Skeleton
public import proofs.«01_k».proof.Proof.Gen.GlaStateIdeal.Launch
public import proofs.«01_k».proof.Proof.Gen.GlaStateIdeal.Points
public import proofs.«01_k».proof.Proof.Gen.GlaStateIdeal.Frame
public import proofs.«01_k».proof.Proof.Gen.GlaStateIdeal.Value
public import proofs.«01_k».proof.Proof.Gen.GlaStateRefIdeal
public import proofs.«01_k».proof.Proof.Gen.GlaStateRefIdeal.Run
public import proofs.«01_k».proof.Proof.Gen.GlaStateRefIdeal.StepRun
public import proofs.«01_k».proof.Proof.Gen.Pre_gates_finite
public import proofs.«01_k».proof.Proof.Gen.On_forward
public import proofs.«01_k».proof.Proof.GlaAll
public import Idealize.ShloMosaic.Adequacy
public import Idealize.ShloMosaic.Init

@[expose] public section

noncomputable section

namespace Cert.Proof

open Idealize.ShloMosaic Idealize.SL.Sem Cert.Sconv

/-- The reference of `Sconv` runs, its arguments end unchanged, and nothing is left owed. -/
theorem frame_SconvRef : Cert.quiescent_SconvRefIdeal := fun m ρ _ =>
  (Idealize.ShloMosaic.θ_run Cert.SconvRefIdeal.defs _ _).mono (fun r h => ⟨fun c => (h c).2, Idealize.ShloMosaic.sem_eq_zero_of_no_sems (by decide) r.2⟩)
    (Cert.SconvRefIdeal.Value.run (F := Idealize.ShloMosaic.Ideal) m ρ)

/-- The reference of `Hyena` runs, its arguments end unchanged, and nothing is left owed. -/
theorem frame_HyenaRef : Cert.quiescent_HyenaRefIdeal := fun m ρ _ =>
  (Idealize.ShloMosaic.θ_run Cert.HyenaRefIdeal.defs _ _).mono (fun r h => ⟨fun c => (h c).2.2, Idealize.ShloMosaic.sem_eq_zero_of_no_sems (by decide) r.2⟩)
    (Cert.HyenaRefIdeal.Value.run (F := Idealize.ShloMosaic.Ideal) m ρ)

/-- The reference of `GlaIn` runs, its arguments end unchanged, and nothing is left owed. -/
theorem frame_GlaInRef : Cert.quiescent_GlaInRefIdeal := fun m ρ _ =>
  (Idealize.ShloMosaic.θ_run Cert.GlaInRefIdeal.defs _ _).mono (fun r h => ⟨fun c => (h c).2, Idealize.ShloMosaic.sem_eq_zero_of_no_sems (by decide) r.2⟩)
    (Cert.GlaInRefIdeal.Value.run (F := Idealize.ShloMosaic.Ideal) m ρ)

/-- The reference of `Out` runs, its arguments end unchanged, and nothing is left owed. -/
theorem frame_OutRef : Cert.quiescent_OutRefIdeal := fun m ρ _ =>
  (Idealize.ShloMosaic.θ_run Cert.OutRefIdeal.defs _ _).mono (fun r h => ⟨fun c => (h c).2, Idealize.ShloMosaic.sem_eq_zero_of_no_sems (by decide) r.2⟩)
    (Cert.OutRefIdeal.Value.run (F := Idealize.ShloMosaic.Ideal) m ρ)

/-- The reference of `LnSample` runs, its arguments end unchanged, and nothing is left owed. -/
theorem frame_LnSampleRef : Cert.quiescent_LnSampleRefIdeal := fun m ρ _ =>
  (Idealize.ShloMosaic.θ_run Cert.LnSampleRefIdeal.defs _ _).mono (fun r h => ⟨fun c => (h c).2, Idealize.ShloMosaic.sem_eq_zero_of_no_sems (by decide) r.2⟩)
    (Cert.LnSampleRefIdeal.Value.run (F := Idealize.ShloMosaic.Ideal) m ρ)

/-- The reference of `LnPrompt` runs, its arguments end unchanged, and nothing is left owed. -/
theorem frame_LnPromptRef : Cert.quiescent_LnPromptRefIdeal := fun m ρ _ =>
  (Idealize.ShloMosaic.θ_run Cert.LnPromptRefIdeal.defs _ _).mono (fun r h => ⟨fun c => (h c).2, Idealize.ShloMosaic.sem_eq_zero_of_no_sems (by decide) r.2⟩)
    (Cert.LnPromptRefIdeal.Value.run (F := Idealize.ShloMosaic.Ideal) m ρ)

/-- The reference of `GlaState` runs, its arguments end unchanged, and nothing is left owed. -/
theorem frame_GlaStateRef : Cert.quiescent_GlaStateRefIdeal := fun m ρ _ =>
  (Idealize.ShloMosaic.θ_run Cert.GlaStateRefIdeal.defs _ _).mono (fun r h => ⟨fun c => (h c).2, Idealize.ShloMosaic.sem_eq_zero_of_no_sems (by decide) r.2⟩)
    (Cert.GlaStateRefIdeal.Value.run (F := Idealize.ShloMosaic.Ideal) m ρ)

theorem claim : Cert.Claim := ⟨Cert.Sconv.Gen.facts, Cert.SconvIdeal.Gen.facts, Cert.SconvRefIdeal.Gen.facts, Cert.Hyena.Gen.facts, Cert.HyenaIdeal.Gen.facts, Cert.HyenaRefIdeal.Gen.facts, Cert.GlaIn.Gen.facts, Cert.GlaInIdeal.Gen.facts, Cert.GlaInRefIdeal.Gen.facts, Cert.Out.Gen.facts, Cert.OutIdeal.Gen.facts, Cert.OutRefIdeal.Gen.facts, Cert.LnSample.Gen.facts, Cert.LnSampleIdeal.Gen.facts, Cert.LnSampleRefIdeal.Gen.facts, Cert.LnPrompt.Gen.facts, Cert.LnPromptIdeal.Gen.facts, Cert.LnPromptRefIdeal.Gen.facts, Cert.GlaState.Gen.facts, Cert.GlaStateIdeal.Gen.facts, Cert.GlaStateRefIdeal.Gen.facts, Cert.Pre_gates_finite.Gen.facts, Cert.On_forward.Gen.facts,
  fun m ρ _ => Cert.Sconv.Gen.frame m ρ, fun m ρ _ => Cert.SconvIdeal.Gen.frame m ρ, frame_SconvRef, fun m ρ _ => Cert.Hyena.Gen.frame m ρ, fun m ρ _ => Cert.HyenaIdeal.Gen.frame m ρ, frame_HyenaRef, fun m ρ _ => Cert.GlaIn.Gen.frame m ρ, fun m ρ _ => Cert.GlaInIdeal.Gen.frame m ρ, frame_GlaInRef, fun m ρ _ => Cert.Out.Gen.frame m ρ, fun m ρ _ => Cert.OutIdeal.Gen.frame m ρ, frame_OutRef, fun m ρ _ => Cert.LnSample.Gen.frame m ρ, fun m ρ _ => Cert.LnSampleIdeal.Gen.frame m ρ, frame_LnSampleRef, fun m ρ _ => Cert.LnPrompt.Gen.frame m ρ, fun m ρ _ => Cert.LnPromptIdeal.Gen.frame m ρ, frame_LnPromptRef, fun m ρ _ => Cert.GlaState.Gen.frame m ρ, fun m ρ _ => Cert.GlaStateIdeal.Gen.frame m ρ, fun m ρ _ => Cert.GlaStateIdeal.Gen.frame m ρ, frame_GlaStateRef, fun m ρ _ => frame_GlaStateRef m ρ trivial,
  trivial, Cert.Proof.Sconv.algebraic, trivial, Cert.Proof.Hyena.algebraic, trivial, Cert.Proof.GlaIn.algebraic, trivial, Cert.Proof.Out.algebraic, trivial, Cert.Proof.LnSample.algebraic, trivial, Cert.Proof.LnPrompt.algebraic, IdealRules.named_const.statement _ _ _ _ _ rfl, Cert.Proof.GlaState.algebraic⟩

end Cert.Proof

end
